-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "masked" .f32 0xFF61B1E6#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v259) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x3x2048 : Shape := ⟨3, ![8, 3, 2048]⟩
abbrev S16x6 : Shape := ⟨2, ![16, 6]⟩
abbrev S16 : Shape := ⟨1, ![16]⟩
abbrev S16x32 : Shape := ⟨2, ![16, 32]⟩
abbrev S32x32 : Shape := ⟨2, ![32, 32]⟩
abbrev S32 : Shape := ⟨1, ![32]⟩
abbrev S64x64 : Shape := ⟨2, ![64, 64]⟩
abbrev S64 : Shape := ⟨1, ![64]⟩
abbrev S32x16 : Shape := ⟨2, ![32, 16]⟩
abbrev S64x32 : Shape := ⟨2, ![64, 32]⟩
abbrev S_ : Shape := ⟨0, ![]⟩

class Facts : Prop where
  bcast_S_S8x3x2048 : S_.BroadcastsInDim S8x3x2048 (![] : Fin 0 → Fin S8x3x2048.rank)
  bcast_S_S16 : S_.BroadcastsInDim S16 (![] : Fin 0 → Fin S16.rank)
  bcast_S_S32 : S_.BroadcastsInDim S32 (![] : Fin 0 → Fin S32.rank)
  bcast_S_S32x16 : S_.BroadcastsInDim S32x16 (![] : Fin 0 → Fin S32x16.rank)

variable [Facts]

def fn_part1 {F : FTy → Type} [FloatOps F] (main_arg9 : FVec F S32 .f32) (main_arg13 : FVec F S32x16 .f32) (main_v2 : IVec S8x3x2048 1) (main_v5 : IVec S16 1) (main_v8 : IVec S16 1) (main_v11 : IVec S16 1) (main_v14 : IVec S16 1) (main_v17 : IVec S32 1) : IVec S8x3x2048 1 × IVec S16 1 × IVec S16 1 × IVec S16 1 × IVec S16 1 × IVec S32 1 × IVec S32 1 × IVec S32x16 1 :=
  let main_v18 : FVec F S32 .f32 := Host.absf main_arg9
  let main_cst_5 : FVec F S_ .f32 := constant S_ .f32 0x7F800000#32
  let main_v19 : FVec F S32 .f32 := broadcastInDim S32 ![] bcast_S_S32 main_cst_5
  let main_v20 : IVec S32 1 := cmpf .olt main_v18 main_v19
  let main_v21 : FVec F S32x16 .f32 := Host.absf main_arg13
  let main_cst_6 : FVec F S_ .f32 := constant S_ .f32 0x7F800000#32
  let main_v22 : FVec F S32x16 .f32 := broadcastInDim S32x16 ![] bcast_S_S32x16 main_cst_6
  let main_v23 : IVec S32x16 1 := cmpf .olt main_v21 main_v22
  (main_v2, main_v5, main_v8, main_v11, main_v14, main_v17, main_v20, main_v23)

def fn {F : FTy → Type} [FloatOps F] (main_arg0 : FVec F S8x3x2048 .f32) (main_arg1 : FVec F S16x6 .f32) (main_arg2 : FVec F S16 .f32) (main_arg3 : FVec F S16 .f32) (main_arg4 : FVec F S16x32 .f32) (main_arg5 : FVec F S16 .f32) (main_arg6 : FVec F S16 .f32) (main_arg7 : FVec F S32x32 .f32) (main_arg8 : FVec F S32 .f32) (main_arg9 : FVec F S32 .f32) (main_arg10 : FVec F S64x64 .f32) (main_arg11 : FVec F S64 .f32) (main_arg12 : FVec F S64 .f32) (main_arg13 : FVec F S32x16 .f32) (main_arg14 : FVec F S64x32 .f32) : IVec S8x3x2048 1 × IVec S16 1 × IVec S16 1 × IVec S16 1 × IVec S16 1 × IVec S32 1 × IVec S32 1 × IVec S32x16 1 :=
  let main_v0 : FVec F S8x3x2048 .f32 := Host.absf main_arg0
  let main_cst : FVec F S_ .f32 := constant S_ .f32 0x7F800000#32
  let main_v1 : FVec F S8x3x2048 .f32 := broadcastInDim S8x3x2048 ![] bcast_S_S8x3x2048 main_cst
  let main_v2 : IVec S8x3x2048 1 := cmpf .olt main_v0 main_v1
  let main_v3 : FVec F S16 .f32 := Host.absf main_arg2
  let main_cst_0 : FVec F S_ .f32 := constant S_ .f32 0x7F800000#32
  let main_v4 : FVec F S16 .f32 := broadcastInDim S16 ![] bcast_S_S16 main_cst_0
  let main_v5 : IVec S16 1 := cmpf .olt main_v3 main_v4
  let main_v6 : FVec F S16 .f32 := Host.absf main_arg3
  let main_cst_1 : FVec F S_ .f32 := constant S_ .f32 0x7F800000#32
  let main_v7 : FVec F S16 .f32 := broadcastInDim S16 ![] bcast_S_S16 main_cst_1
  let main_v8 : IVec S16 1 := cmpf .olt main_v6 main_v7
  let main_v9 : FVec F S16 .f32 := Host.absf main_arg5
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_v12 : FVec F S16 .f32 := Host.absf main_arg6
  let main_cst_3 : FVec F S_ .f32 := constant S_ .f32 0x7F800000#32
  let main_v13 : FVec F S16 .f32 := broadcastInDim S16 ![] bcast_S_S16 main_cst_3
  let main_v14 : IVec S16 1 := cmpf .olt main_v12 main_v13
  let main_v15 : FVec F S32 .f32 := Host.absf main_arg8
  let main_cst_4 : FVec F S_ .f32 := constant S_ .f32 0x7F800000#32
  let main_v16 : FVec F S32 .f32 := broadcastInDim S32 ![] bcast_S_S32 main_cst_4
  let main_v17 : IVec S32 1 := cmpf .olt main_v15 main_v16
  fn_part1 (F := F) main_arg9 main_arg13 main_v2 main_v5 main_v8 main_v11 main_v14 main_v17
-- ==== Kernel.lean ====
abbrev S8x3x2048 : Shape := ⟨3, ![8, 3, 2048]⟩
abbrev S16x6 : Shape := ⟨2, ![16, 6]⟩
abbrev S16 : Shape := ⟨1, ![16]⟩
abbrev S16x32 : Shape := ⟨2, ![16, 32]⟩
abbrev S32x32 : Shape := ⟨2, ![32, 32]⟩
abbrev S32 : Shape := ⟨1, ![32]⟩
abbrev S64x64 : Shape := ⟨2, ![64, 64]⟩
abbrev S64 : Shape := ⟨1, ![64]⟩
abbrev S32x16 : Shape := ⟨2, ![32, 16]⟩
abbrev S64x32 : Shape := ⟨2, ![64, 32]⟩
abbrev S8x2048x3 : Shape := ⟨3, ![8, 2048, 3]⟩
abbrev S6x16 : Shape := ⟨2, ![6, 16]⟩
abbrev S1x16 : Shape := ⟨2, ![1, 16]⟩
abbrev S8x2048x16 : Shape := ⟨3, ![8, 2048, 16]⟩
abbrev S1x32 : Shape := ⟨2, ![1, 32]⟩
abbrev S8x2048x32 : Shape := ⟨3, ![8, 2048, 32]⟩
abbrev S1x64 : Shape := ⟨2, ![1, 64]⟩
abbrev S32x64 : Shape := ⟨2, ![32, 64]⟩
abbrev S8x2048x64 : Shape := ⟨3, ![8, 2048, 64]⟩
abbrev S8x2048x128 : Shape := ⟨3, ![8, 2048, 128]⟩
abbrev S8x128x2048 : Shape := ⟨3, ![8, 128, 2048]⟩
abbrev S1x2048x3 : Shape := ⟨3, ![1, 2048, 3]⟩
abbrev S1x512x3 : Shape := ⟨3, ![1, 512, 3]⟩
abbrev S1x512x16 : Shape := ⟨3, ![1, 512, 16]⟩
abbrev S2048x3 : Shape := ⟨2, ![2048, 3]⟩
abbrev S512x3 : Shape := ⟨2, ![512, 3]⟩
abbrev S2048 : Shape := ⟨1, ![2048]⟩
abbrev S512 : Shape := ⟨1, ![512]⟩
abbrev S512x2048 : Shape := ⟨2, ![512, 2048]⟩
abbrev S512x1 : Shape := ⟨2, ![512, 1]⟩
abbrev S1x2048 : Shape := ⟨2, ![1, 2048]⟩
abbrev S2048x9 : Shape := ⟨2, ![2048, 9]⟩
abbrev S512x16 : Shape := ⟨2, ![512, 16]⟩
abbrev S512x9 : Shape := ⟨2, ![512, 9]⟩
abbrev S512x6 : Shape := ⟨2, ![512, 6]⟩
abbrev S1x2048x16 : Shape := ⟨3, ![1, 2048, 16]⟩
abbrev S2048x16 : Shape := ⟨2, ![2048, 16]⟩
abbrev S2048x48 : Shape := ⟨2, ![2048, 48]⟩
abbrev S512x48 : Shape := ⟨2, ![512, 48]⟩
abbrev S512x32 : Shape := ⟨2, ![512, 32]⟩
abbrev S1x512x32 : Shape := ⟨3, ![1, 512, 32]⟩
abbrev S1x2048x32 : Shape := ⟨3, ![1, 2048, 32]⟩
abbrev S1x512x64 : Shape := ⟨3, ![1, 512, 64]⟩
abbrev S2048x32 : Shape := ⟨2, ![2048, 32]⟩
abbrev S2048x96 : Shape := ⟨2, ![2048, 96]⟩
abbrev S512x64 : Shape := ⟨2, ![512, 64]⟩
abbrev S512x96 : Shape := ⟨2, ![512, 96]⟩

abbrev nBuf : Space → Nat
  | .hbm => 36
  | .vmem => 38
  | .smem => 0
  | _ => 0

abbrev bufTy : (tb : Table) → Fin (tcTables nBuf tb) → BufTy
  | .hbm, ⟨0, _⟩ => ⟨S8x3x2048, .f32⟩
  | .hbm, ⟨1, _⟩ => ⟨S16x6, .f32⟩
  | .hbm, ⟨2, _⟩ => ⟨S16, .f32⟩
  | .hbm, ⟨3, _⟩ => ⟨S16, .f32⟩
  | .hbm, ⟨4, _⟩ => ⟨S16x32, .f32⟩
  | .hbm, ⟨5, _⟩ => ⟨S16, .f32⟩
  | .hbm, ⟨6, _⟩ => ⟨S16, .f32⟩
  | .hbm, ⟨7, _⟩ => ⟨S32x32, .f32⟩
  | .hbm, ⟨8, _⟩ => ⟨S32, .f32⟩
  | .hbm, ⟨9, _⟩ => ⟨S32, .f32⟩
  | .hbm, ⟨10, _⟩ => ⟨S64x64, .f32⟩
  | .hbm, ⟨11, _⟩ => ⟨S64, .f32⟩
  | .hbm, ⟨12, _⟩ => ⟨S64, .f32⟩
  | .hbm, ⟨13, _⟩ => ⟨S32x16, .f32⟩
  | .hbm, ⟨14, _⟩ => ⟨S64x32, .f32⟩
  | .hbm, ⟨15, _⟩ => ⟨S8x2048x3, .f32⟩
  | .hbm, ⟨16, _⟩ => ⟨S6x16, .f32⟩
  | .hbm, ⟨17, _⟩ => ⟨S1x16, .f32⟩
  | .hbm, ⟨18, _⟩ => ⟨S1x16, .f32⟩
  | .hbm, ⟨19, _⟩ => ⟨S8x2048x16, .f32⟩
  | .hbm, ⟨20, _⟩ => ⟨S32x16, .f32⟩
  | .hbm, ⟨21, _⟩ => ⟨S1x16, .f32⟩
  | .hbm, ⟨22, _⟩ => ⟨S1x16, .f32⟩
  | .hbm, ⟨23, _⟩ => ⟨S8x2048x16, .f32⟩
  | .hbm, ⟨24, _⟩ => ⟨S32x32, .f32⟩
  | .hbm, ⟨25, _⟩ => ⟨S1x32, .f32⟩
  | .hbm, ⟨26, _⟩ => ⟨S1x32, .f32⟩
  | .hbm, ⟨27, _⟩ => ⟨S16x32, .f32⟩
  | .hbm, ⟨28, _⟩ => ⟨S8x2048x32, .f32⟩
  | .hbm, ⟨29, _⟩ => ⟨S64x64, .f32⟩
  | .hbm, ⟨30, _⟩ => ⟨S1x64, .f32⟩
  | .hbm, ⟨31, _⟩ => ⟨S1x64, .f32⟩
  | .hbm, ⟨32, _⟩ => ⟨S32x64, .f32⟩
  | .hbm, ⟨33, _⟩ => ⟨S8x2048x64, .f32⟩
  | .hbm, ⟨34, _⟩ => ⟨S8x2048x128, .f32⟩
  | .hbm, ⟨35, _⟩ => ⟨S8x128x2048, .f32⟩
  | .local _ .vmem, ⟨0, _⟩ => ⟨S1x2048x3, .f32⟩
  | .local _ .vmem, ⟨1, _⟩ => ⟨S1x2048x3, .f32⟩
  | .local _ .vmem, ⟨2, _⟩ => ⟨S1x512x3, .f32⟩
  | .local _ .vmem, ⟨3, _⟩ => ⟨S1x512x3, .f32⟩
  | .local _ .vmem, ⟨4, _⟩ => ⟨S6x16, .f32⟩
  | .local _ .vmem, ⟨5, _⟩ => ⟨S1x16, .f32⟩
  | .local _ .vmem, ⟨6, _⟩ => ⟨S1x16, .f32⟩
  | .local _ .vmem, ⟨7, _⟩ => ⟨S1x512x16, .f32⟩
  | .local _ .vmem, ⟨8, _⟩ => ⟨S1x512x16, .f32⟩
  | .local _ .vmem, ⟨9, _⟩ => ⟨S1x2048x16, .f32⟩
  | .local _ .vmem, ⟨10, _⟩ => ⟨S1x2048x16, .f32⟩
  | .local _ .vmem, ⟨11, _⟩ => ⟨S1x512x16, .f32⟩
  | .local _ .vmem, ⟨12, _⟩ => ⟨S1x512x16, .f32⟩
  | .local _ .vmem, ⟨13, _⟩ => ⟨S32x16, .f32⟩
  | .local _ .vmem, ⟨14, _⟩ => ⟨S1x16, .f32⟩
  | .local _ .vmem, ⟨15, _⟩ => ⟨S1x16, .f32⟩
  | .local _ .vmem, ⟨16, _⟩ => ⟨S1x512x16, .f32⟩
  | .local _ .vmem, ⟨17, _⟩ => ⟨S1x512x16, .f32⟩
  | .local _ .vmem, ⟨18, _⟩ => ⟨S1x2048x16, .f32⟩
  | .local _ .vmem, ⟨19, _⟩ => ⟨S1x2048x16, .f32⟩
  | .local _ .vmem, ⟨20, _⟩ => ⟨S1x512x16, .f32⟩
  | .local _ .vmem, ⟨21, _⟩ => ⟨S1x512x16, .f32⟩
  | .local _ .vmem, ⟨22, _⟩ => ⟨S32x32, .f32⟩
  | .local _ .vmem, ⟨23, _⟩ => ⟨S1x32, .f32⟩
  | .local _ .vmem, ⟨24, _⟩ => ⟨S1x32, .f32⟩
  | .local _ .vmem, ⟨25, _⟩ => ⟨S16x32, .f32⟩
  | .local _ .vmem, ⟨26, _⟩ => ⟨S1x512x32, .f32⟩
  | .local _ .vmem, ⟨27, _⟩ => ⟨S1x512x32, .f32⟩
  | .local _ .vmem, ⟨28, _⟩ => ⟨S1x2048x32, .f32⟩
  | .local _ .vmem, ⟨29, _⟩ => ⟨S1x2048x32, .f32⟩
  | .local _ .vmem, ⟨30, _⟩ => ⟨S1x512x32, .f32⟩
  | .local _ .vmem, ⟨31, _⟩ => ⟨S1x512x32, .f32⟩
  | .local _ .vmem, ⟨32, _⟩ => ⟨S64x64, .f32⟩
  | .local _ .vmem, ⟨33, _⟩ => ⟨S1x64, .f32⟩
  | .local _ .vmem, ⟨34, _⟩ => ⟨S1x64, .f32⟩
  | .local _ .vmem, ⟨35, _⟩ => ⟨S32x64, .f32⟩
  | .local _ .vmem, ⟨36, _⟩ => ⟨S1x512x64, .f32⟩
  | .local _ .vmem, ⟨37, _⟩ => ⟨S1x512x64, .f32⟩
  | _, _ => ⟨S8x3x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_call0_v17 : Ref sig .tc := ⟨.hbm, 32, rfl⟩
abbrev main_call0_v18 : Ref sig .tc := ⟨.hbm, 33, rfl⟩
abbrev main_call0_v19 : Ref sig .tc := ⟨.hbm, 34, rfl⟩
abbrev main_v0 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg6_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem6_1 : DmaSem sig := 37

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c2_i32 : BitVec 32 := 2#32
  let v33 : BitVec 32 := Scalar.addi c0_i32 c2_i32
  let c1_i32 : BitVec 32 := 1#32
  ⟨c0_i32, v33, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S6x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![8, 4], ![false, false]⟩

@[reducible] def k1_t1_loop : Scf.Loop 32 :=
  let c0_i32 : BitVec 32 := 0#32
  let c2_i32 : BitVec 32 := 2#32
  let v33 : BitVec 32 := Scalar.addi c0_i32 c2_i32
  let c1_i32 : BitVec 32 := 1#32
  ⟨c0_i32, v33, c1_i32⟩
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x512x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S32x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![8, 4], ![false, false]⟩

@[reducible] def k2_t1_loop : Scf.Loop 32 :=
  let c0_i32 : BitVec 32 := 0#32
  let c2_i32 : BitVec 32 := 2#32
  let v33 : BitVec 32 := Scalar.addi c0_i32 c2_i32
  let c1_i32 : BitVec 32 := 1#32
  ⟨c0_i32, v33, c1_i32⟩
def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x2048x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x512x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S16x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x512x32 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev grid3 : Pipeline.Grid := ⟨2, ![8, 4], ![false, false]⟩

@[reducible] def k3_t1_loop : Scf.Loop 32 :=
  let c0_i32 : BitVec 32 := 0#32
  let c2_i32 : BitVec 32 := 2#32
  let v33 : BitVec 32 := Scalar.addi c0_i32 c2_i32
  let c1_i32 : BitVec 32 := 1#32
  ⟨c0_i32, v33, c1_i32⟩
def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x2048x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1x512x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S32x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 2 → Memref sig .tc .vmem S1x512x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]
-- ==== KernelIdeal.lean ====
variable {F : FTy → Type} [FloatOps F] [Named F]
def κ : String → Option EReal := fun
  | "masked" => some ⊥
  | _ => none
-- ==== ReferenceIdeal.lean ====
abbrev S8x3x2048 : Shape := ⟨3, ![8, 3, 2048]⟩
abbrev S16x6 : Shape := ⟨2, ![16, 6]⟩
abbrev S16 : Shape := ⟨1, ![16]⟩
abbrev S16x32 : Shape := ⟨2, ![16, 32]⟩
abbrev S32x32 : Shape := ⟨2, ![32, 32]⟩
abbrev S32 : Shape := ⟨1, ![32]⟩
abbrev S64x64 : Shape := ⟨2, ![64, 64]⟩
abbrev S64 : Shape := ⟨1, ![64]⟩
abbrev S32x16 : Shape := ⟨2, ![32, 16]⟩
abbrev S64x32 : Shape := ⟨2, ![64, 32]⟩
abbrev S8x2048x3 : Shape := ⟨3, ![8, 2048, 3]⟩
abbrev S8x2048x2048 : Shape := ⟨3, ![8, 2048, 2048]⟩
abbrev S_ : Shape := ⟨0, ![]⟩
abbrev S8x2048 : Shape := ⟨2, ![8, 2048]⟩
abbrev S8x1x2048 : Shape := ⟨3, ![8, 1, 2048]⟩
abbrev S8x2048x1 : Shape := ⟨3, ![8, 2048, 1]⟩
abbrev S8x2048x20 : Shape := ⟨3, ![8, 2048, 20]⟩
abbrev S16384x3 : Shape := ⟨2, ![16384, 3]⟩
abbrev S8 : Shape := ⟨1, ![8]⟩
abbrev S8x1x1 : Shape := ⟨3, ![8, 1, 1]⟩
abbrev S327680 : Shape := ⟨1, ![327680]⟩
abbrev S327680x1 : Shape := ⟨2, ![327680, 1]⟩
abbrev S327680x3 : Shape := ⟨2, ![327680, 3]⟩
abbrev S8x2048x20x3 : Shape := ⟨4, ![8, 2048, 20, 3]⟩
abbrev S8x2048x1x3 : Shape := ⟨4, ![8, 2048, 1, 3]⟩
abbrev S8x2048x20x6 : Shape := ⟨4, ![8, 2048, 20, 6]⟩
abbrev S8x6x2048x20 : Shape := ⟨4, ![8, 6, 2048, 20]⟩
abbrev S8x2048x20x16 : Shape := ⟨4, ![8, 2048, 20, 16]⟩
abbrev S8x16x2048x20 : Shape := ⟨4, ![8, 16, 2048, 20]⟩
abbrev S8x2048x20x1 : Shape := ⟨4, ![8, 2048, 20, 1]⟩
abbrev S1x1x1x16 : Shape := ⟨4, ![1, 1, 1, 16]⟩
abbrev S8x16x2048 : Shape := ⟨3, ![8, 16, 2048]⟩
abbrev S8x2048x16 : Shape := ⟨3, ![8, 2048, 16]⟩
abbrev S16384x16 : Shape := ⟨2, ![16384, 16]⟩
abbrev S327680x16 : Shape := ⟨2, ![327680, 16]⟩
abbrev S8x2048x1x16 : Shape := ⟨4, ![8, 2048, 1, 16]⟩
abbrev S8x2048x20x32 : Shape := ⟨4, ![8, 2048, 20, 32]⟩
abbrev S8x32x2048x20 : Shape := ⟨4, ![8, 32, 2048, 20]⟩
abbrev S1x1x1x32 : Shape := ⟨4, ![1, 1, 1, 32]⟩
abbrev S8x32x2048 : Shape := ⟨3, ![8, 32, 2048]⟩
abbrev S8x2048x32 : Shape := ⟨3, ![8, 2048, 32]⟩
abbrev S16384x32 : Shape := ⟨2, ![16384, 32]⟩
abbrev S327680x32 : Shape := ⟨2, ![327680, 32]⟩
abbrev S8x2048x1x32 : Shape := ⟨4, ![8, 2048, 1, 32]⟩
abbrev S8x2048x20x64 : Shape := ⟨4, ![8, 2048, 20, 64]⟩
abbrev S8x64x2048x20 : Shape := ⟨4, ![8, 64, 2048, 20]⟩
abbrev S1x1x1x64 : Shape := ⟨4, ![1, 1, 1, 64]⟩
abbrev S8x64x2048 : Shape := ⟨3, ![8, 64, 2048]⟩
abbrev S8x2048x64 : Shape := ⟨3, ![8, 2048, 64]⟩
abbrev S8x128x2048 : Shape := ⟨3, ![8, 128, 2048]⟩

abbrev nBuf : Space → Nat
  | .hbm => 419
  | .vmem => 0
  | .smem => 0
  | _ => 0

abbrev hbmTy0_0 (i : Nat) : BufTy := match i % 128 with
  | 0 => ⟨S8x3x2048, .f32⟩
  | 1 => ⟨S16x6, .f32⟩
  | 2 => ⟨S16, .f32⟩
  | 3 => ⟨S16, .f32⟩
  | 4 => ⟨S16x32, .f32⟩
  | 5 => ⟨S16, .f32⟩
  | 6 => ⟨S16, .f32⟩
  | 7 => ⟨S32x32, .f32⟩
  | 8 => ⟨S32, .f32⟩
  | 9 => ⟨S32, .f32⟩
  | 10 => ⟨S64x64, .f32⟩
  | 11 => ⟨S64, .f32⟩
  | 12 => ⟨S64, .f32⟩
  | 13 => ⟨S32x16, .f32⟩
  | 14 => ⟨S64x32, .f32⟩
  | 15 => ⟨S8x2048x3, .f32⟩
  | 16 => ⟨S8x2048x2048, .f32⟩
  | 17 => ⟨S_, .f32⟩
  | 18 => ⟨S8x2048x2048, .f32⟩
  | 19 => ⟨S8x2048x2048, .f32⟩
  | 20 => ⟨S8x3x2048, .f32⟩
  | 21 => ⟨S_, .f32⟩
  | 22 => ⟨S8x2048, .f32⟩
  | 23 => ⟨S8x1x2048, .f32⟩
  | 24 => ⟨S8x1x2048, .f32⟩
  | 25 => ⟨S8x2048x2048, .f32⟩
  | 26 => ⟨S8x2048x2048, .f32⟩
  | 27 => ⟨S8x2048x1, .f32⟩
  | 28 => ⟨S8x2048x2048, .f32⟩
  | 29 => ⟨S8x2048x2048, .f32⟩
  | 30 => ⟨S8x2048x20, .f32⟩
  | 31 => ⟨S8x2048x20, .i32⟩
  | 32 => ⟨S8x2048x3, .f32⟩
  | 33 => ⟨S16384x3, .f32⟩
  | 34 => ⟨S8, .i32⟩
  | 35 => ⟨S8x1x1, .i32⟩
  | 36 => ⟨S_, .i32⟩
  | 37 => ⟨S8x1x1, .i32⟩
  | 38 => ⟨S8x1x1, .i32⟩
  | 39 => ⟨S8x2048x20, .i32⟩
  | 40 => ⟨S8x2048x20, .i32⟩
  | 41 => ⟨S327680, .i32⟩
  | 42 => ⟨S_, .i32⟩
  | 43 => ⟨S327680, .i32⟩
  | 44 => ⟨S327680, .i1⟩
  | 45 => ⟨S_, .i32⟩
  | 46 => ⟨S327680, .i32⟩
  | 47 => ⟨S327680, .i32⟩
  | 48 => ⟨S327680, .i32⟩
  | 49 => ⟨S327680x1, .i32⟩
  | 50 => ⟨S327680x3, .f32⟩
  | 51 => ⟨S8x2048x20x3, .f32⟩
  | 52 => ⟨S8x2048x1x3, .f32⟩
  | 53 => ⟨S8x2048x20x3, .f32⟩
  | 54 => ⟨S8x2048x20x3, .f32⟩
  | 55 => ⟨S8x2048x20x6, .f32⟩
  | 56 => ⟨S8x6x2048x20, .f32⟩
  | 57 => ⟨S8x2048x20x16, .f32⟩
  | 58 => ⟨S8x16x2048x20, .f32⟩
  | 59 => ⟨S8x2048x20x16, .f32⟩
  | 60 => ⟨S_, .f32⟩
  | 61 => ⟨S8x2048x20, .f32⟩
  | 62 => ⟨S8x2048x20x1, .f32⟩
  | 63 => ⟨S_, .f32⟩
  | 64 => ⟨S8x2048x20x1, .f32⟩
  | 65 => ⟨S8x2048x20x1, .f32⟩
  | 66 => ⟨S_, .i32⟩
  | 67 => ⟨S_, .f32⟩
  | 68 => ⟨S8x2048x20, .f32⟩
  | 69 => ⟨S8x2048x20x1, .f32⟩
  | 70 => ⟨S_, .f32⟩
  | 71 => ⟨S8x2048x20x1, .f32⟩
  | 72 => ⟨S8x2048x20x1, .f32⟩
  | 73 => ⟨S8x2048x20x16, .f32⟩
  | 74 => ⟨S8x2048x20x16, .f32⟩
  | 75 => ⟨S8x2048x20x16, .f32⟩
  | 76 => ⟨S_, .f32⟩
  | 77 => ⟨S_, .f32⟩
  | 78 => ⟨S_, .f32⟩
  | 79 => ⟨S_, .f32⟩
  | 80 => ⟨S8x2048x20, .f32⟩
  | 81 => ⟨S8x2048x20x1, .f32⟩
  | 82 => ⟨S8x2048x20x1, .f32⟩
  | 83 => ⟨S8x2048x20x1, .f32⟩
  | 84 => ⟨S_, .f32⟩
  | 85 => ⟨S_, .i1⟩
  | 86 => ⟨S_, .f32⟩
  | 87 => ⟨S_, .f32⟩
  | 88 => ⟨S8x2048x20x1, .f32⟩
  | 89 => ⟨S8x2048x20x1, .f32⟩
  | 90 => ⟨S8x2048x20x16, .f32⟩
  | 91 => ⟨S8x2048x20x16, .f32⟩
  | 92 => ⟨S_, .f32⟩
  | 93 => ⟨S8x2048x20x1, .f32⟩
  | 94 => ⟨S8x2048x20x1, .f32⟩
  | 95 => ⟨S8x2048x20x1, .f32⟩
  | 96 => ⟨S8x2048x20x16, .f32⟩
  | 97 => ⟨S8x2048x20x16, .f32⟩
  | 98 => ⟨S1x1x1x16, .f32⟩
  | 99 => ⟨S8x2048x20x16, .f32⟩
  | 100 => ⟨S8x2048x20x16, .f32⟩
  | 101 => ⟨S1x1x1x16, .f32⟩
  | 102 => ⟨S8x2048x20x16, .f32⟩
  | 103 => ⟨S8x2048x20x16, .f32⟩
  | 104 => ⟨S8x16x2048x20, .f32⟩
  | 105 => ⟨S_, .f32⟩
  | 106 => ⟨S8x16x2048x20, .f32⟩
  | 107 => ⟨S8x16x2048x20, .i1⟩
  | 108 => ⟨S_, .f32⟩
  | 109 => ⟨S8x16x2048x20, .f32⟩
  | 110 => ⟨S8x16x2048x20, .f32⟩
  | 111 => ⟨S8x16x2048x20, .f32⟩
  | 112 => ⟨S_, .f32⟩
  | 113 => ⟨S8x16x2048, .f32⟩
  | 114 => ⟨S8x2048x16, .f32⟩
  | 115 => ⟨S8x2048x2048, .f32⟩
  | 116 => ⟨S_, .f32⟩
  | 117 => ⟨S8x2048x2048, .f32⟩
  | 118 => ⟨S8x2048x2048, .f32⟩
  | 119 => ⟨S8x16x2048, .f32⟩
  | 120 => ⟨S_, .f32⟩
  | 121 => ⟨S8x2048, .f32⟩
  | 122 => ⟨S8x1x2048, .f32⟩
  | 123 => ⟨S8x1x2048, .f32⟩
  | 124 => ⟨S8x2048x2048, .f32⟩
  | 125 => ⟨S8x2048x2048, .f32⟩
  | 126 => ⟨S8x2048x1, .f32⟩
  | 127 => ⟨S8x2048x2048, .f32⟩
  | _ => ⟨S8x3x2048, .f32⟩

abbrev hbmTy0_1 (i : Nat) : BufTy := match i % 128 with
  | 0 => ⟨S8x2048x2048, .f32⟩
  | 1 => ⟨S8x2048x20, .f32⟩
  | 2 => ⟨S8x2048x20, .i32⟩
  | 3 => ⟨S8x2048x16, .f32⟩
  | 4 => ⟨S16384x16, .f32⟩
  | 5 => ⟨S8, .i32⟩
  | 6 => ⟨S8x1x1, .i32⟩
  | 7 => ⟨S_, .i32⟩
  | 8 => ⟨S8x1x1, .i32⟩
  | 9 => ⟨S8x1x1, .i32⟩
  | 10 => ⟨S8x2048x20, .i32⟩
  | 11 => ⟨S8x2048x20, .i32⟩
  | 12 => ⟨S327680, .i32⟩
  | 13 => ⟨S_, .i32⟩
  | 14 => ⟨S327680, .i32⟩
  | 15 => ⟨S327680, .i1⟩
  | 16 => ⟨S_, .i32⟩
  | 17 => ⟨S327680, .i32⟩
  | 18 => ⟨S327680, .i32⟩
  | 19 => ⟨S327680, .i32⟩
  | 20 => ⟨S327680x1, .i32⟩
  | 21 => ⟨S327680x16, .f32⟩
  | 22 => ⟨S8x2048x20x16, .f32⟩
  | 23 => ⟨S8x2048x1x16, .f32⟩
  | 24 => ⟨S8x2048x20x16, .f32⟩
  | 25 => ⟨S8x2048x20x16, .f32⟩
  | 26 => ⟨S8x2048x20x32, .f32⟩
  | 27 => ⟨S8x32x2048x20, .f32⟩
  | 28 => ⟨S8x2048x20x16, .f32⟩
  | 29 => ⟨S8x16x2048x20, .f32⟩
  | 30 => ⟨S8x2048x20x16, .f32⟩
  | 31 => ⟨S_, .f32⟩
  | 32 => ⟨S8x2048x20, .f32⟩
  | 33 => ⟨S8x2048x20x1, .f32⟩
  | 34 => ⟨S_, .f32⟩
  | 35 => ⟨S8x2048x20x1, .f32⟩
  | 36 => ⟨S8x2048x20x1, .f32⟩
  | 37 => ⟨S_, .i32⟩
  | 38 => ⟨S_, .f32⟩
  | 39 => ⟨S8x2048x20, .f32⟩
  | 40 => ⟨S8x2048x20x1, .f32⟩
  | 41 => ⟨S_, .f32⟩
  | 42 => ⟨S8x2048x20x1, .f32⟩
  | 43 => ⟨S8x2048x20x1, .f32⟩
  | 44 => ⟨S8x2048x20x16, .f32⟩
  | 45 => ⟨S8x2048x20x16, .f32⟩
  | 46 => ⟨S8x2048x20x16, .f32⟩
  | 47 => ⟨S_, .f32⟩
  | 48 => ⟨S_, .f32⟩
  | 49 => ⟨S_, .f32⟩
  | 50 => ⟨S_, .f32⟩
  | 51 => ⟨S8x2048x20, .f32⟩
  | 52 => ⟨S8x2048x20x1, .f32⟩
  | 53 => ⟨S8x2048x20x1, .f32⟩
  | 54 => ⟨S8x2048x20x1, .f32⟩
  | 55 => ⟨S_, .f32⟩
  | 56 => ⟨S_, .i1⟩
  | 57 => ⟨S_, .f32⟩
  | 58 => ⟨S_, .f32⟩
  | 59 => ⟨S8x2048x20x1, .f32⟩
  | 60 => ⟨S8x2048x20x1, .f32⟩
  | 61 => ⟨S8x2048x20x16, .f32⟩
  | 62 => ⟨S8x2048x20x16, .f32⟩
  | 63 => ⟨S_, .f32⟩
  | 64 => ⟨S8x2048x20x1, .f32⟩
  | 65 => ⟨S8x2048x20x1, .f32⟩
  | 66 => ⟨S8x2048x20x1, .f32⟩
  | 67 => ⟨S8x2048x20x16, .f32⟩
  | 68 => ⟨S8x2048x20x16, .f32⟩
  | 69 => ⟨S1x1x1x16, .f32⟩
  | 70 => ⟨S8x2048x20x16, .f32⟩
  | 71 => ⟨S8x2048x20x16, .f32⟩
  | 72 => ⟨S1x1x1x16, .f32⟩
  | 73 => ⟨S8x2048x20x16, .f32⟩
  | 74 => ⟨S8x2048x20x16, .f32⟩
  | 75 => ⟨S8x16x2048x20, .f32⟩
  | 76 => ⟨S_, .f32⟩
  | 77 => ⟨S8x16x2048x20, .f32⟩
  | 78 => ⟨S8x16x2048x20, .i1⟩
  | 79 => ⟨S_, .f32⟩
  | 80 => ⟨S8x16x2048x20, .f32⟩
  | 81 => ⟨S8x16x2048x20, .f32⟩
  | 82 => ⟨S8x16x2048x20, .f32⟩
  | 83 => ⟨S_, .f32⟩
  | 84 => ⟨S8x16x2048, .f32⟩
  | 85 => ⟨S8x16x2048, .f32⟩
  | 86 => ⟨S8x2048x16, .f32⟩
  | 87 => ⟨S8x2048x2048, .f32⟩
  | 88 => ⟨S_, .f32⟩
  | 89 => ⟨S8x2048x2048, .f32⟩
  | 90 => ⟨S8x2048x2048, .f32⟩
  | 91 => ⟨S8x16x2048, .f32⟩
  | 92 => ⟨S_, .f32⟩
  | 93 => ⟨S8x2048, .f32⟩
  | 94 => ⟨S8x1x2048, .f32⟩
  | 95 => ⟨S8x1x2048, .f32⟩
  | 96 => ⟨S8x2048x2048, .f32⟩
  | 97 => ⟨S8x2048x2048, .f32⟩
  | 98 => ⟨S8x2048x1, .f32⟩
  | 99 => ⟨S8x2048x2048, .f32⟩
  | 100 => ⟨S8x2048x2048, .f32⟩
  | 101 => ⟨S8x2048x20, .f32⟩
  | 102 => ⟨S8x2048x20, .i32⟩
  | 103 => ⟨S8x2048x16, .f32⟩
  | 104 => ⟨S16384x16, .f32⟩
  | 105 => ⟨S8, .i32⟩
  | 106 => ⟨S8x1x1, .i32⟩
  | 107 => ⟨S_, .i32⟩
  | 108 => ⟨S8x1x1, .i32⟩
  | 109 => ⟨S8x1x1, .i32⟩
  | 110 => ⟨S8x2048x20, .i32⟩
  | 111 => ⟨S8x2048x20, .i32⟩
  | 112 => ⟨S327680, .i32⟩
  | 113 => ⟨S_, .i32⟩
  | 114 => ⟨S327680, .i32⟩
  | 115 => ⟨S327680, .i1⟩
  | 116 => ⟨S_, .i32⟩
  | 117 => ⟨S327680, .i32⟩
  | 118 => ⟨S327680, .i32⟩
  | 119 => ⟨S327680, .i32⟩
  | 120 => ⟨S327680x1, .i32⟩
  | 121 => ⟨S327680x16, .f32⟩
  | 122 => ⟨S8x2048x20x16, .f32⟩
  | 123 => ⟨S8x2048x1x16, .f32⟩
  | 124 => ⟨S8x2048x20x16, .f32⟩
  | 125 => ⟨S8x2048x20x16, .f32⟩
  | 126 => ⟨S8x2048x20x32, .f32⟩
  | 127 => ⟨S8x32x2048x20, .f32⟩
  | _ => ⟨S8x3x2048, .f32⟩

abbrev hbmTy0_2 (i : Nat) : BufTy := match i % 128 with
  | 0 => ⟨S8x2048x20x32, .f32⟩
  | 1 => ⟨S8x32x2048x20, .f32⟩
  | 2 => ⟨S8x2048x20x32, .f32⟩
  | 3 => ⟨S_, .f32⟩
  | 4 => ⟨S8x2048x20, .f32⟩
  | 5 => ⟨S8x2048x20x1, .f32⟩
  | 6 => ⟨S_, .f32⟩
  | 7 => ⟨S8x2048x20x1, .f32⟩
  | 8 => ⟨S8x2048x20x1, .f32⟩
  | 9 => ⟨S_, .i32⟩
  | 10 => ⟨S_, .f32⟩
  | 11 => ⟨S8x2048x20, .f32⟩
  | 12 => ⟨S8x2048x20x1, .f32⟩
  | 13 => ⟨S_, .f32⟩
  | 14 => ⟨S8x2048x20x1, .f32⟩
  | 15 => ⟨S8x2048x20x1, .f32⟩
  | 16 => ⟨S8x2048x20x32, .f32⟩
  | 17 => ⟨S8x2048x20x32, .f32⟩
  | 18 => ⟨S8x2048x20x32, .f32⟩
  | 19 => ⟨S_, .f32⟩
  | 20 => ⟨S_, .f32⟩
  | 21 => ⟨S_, .f32⟩
  | 22 => ⟨S_, .f32⟩
  | 23 => ⟨S8x2048x20, .f32⟩
  | 24 => ⟨S8x2048x20x1, .f32⟩
  | 25 => ⟨S8x2048x20x1, .f32⟩
  | 26 => ⟨S8x2048x20x1, .f32⟩
  | 27 => ⟨S_, .f32⟩
  | 28 => ⟨S_, .i1⟩
  | 29 => ⟨S_, .f32⟩
  | 30 => ⟨S_, .f32⟩
  | 31 => ⟨S8x2048x20x1, .f32⟩
  | 32 => ⟨S8x2048x20x1, .f32⟩
  | 33 => ⟨S8x2048x20x32, .f32⟩
  | 34 => ⟨S8x2048x20x32, .f32⟩
  | 35 => ⟨S_, .f32⟩
  | 36 => ⟨S8x2048x20x1, .f32⟩
  | 37 => ⟨S8x2048x20x1, .f32⟩
  | 38 => ⟨S8x2048x20x1, .f32⟩
  | 39 => ⟨S8x2048x20x32, .f32⟩
  | 40 => ⟨S8x2048x20x32, .f32⟩
  | 41 => ⟨S1x1x1x32, .f32⟩
  | 42 => ⟨S8x2048x20x32, .f32⟩
  | 43 => ⟨S8x2048x20x32, .f32⟩
  | 44 => ⟨S1x1x1x32, .f32⟩
  | 45 => ⟨S8x2048x20x32, .f32⟩
  | 46 => ⟨S8x2048x20x32, .f32⟩
  | 47 => ⟨S8x32x2048x20, .f32⟩
  | 48 => ⟨S_, .f32⟩
  | 49 => ⟨S8x32x2048x20, .f32⟩
  | 50 => ⟨S8x32x2048x20, .i1⟩
  | 51 => ⟨S_, .f32⟩
  | 52 => ⟨S8x32x2048x20, .f32⟩
  | 53 => ⟨S8x32x2048x20, .f32⟩
  | 54 => ⟨S8x32x2048x20, .f32⟩
  | 55 => ⟨S_, .f32⟩
  | 56 => ⟨S8x32x2048, .f32⟩
  | 57 => ⟨S8x2048x32, .f32⟩
  | 58 => ⟨S8x32x2048, .f32⟩
  | 59 => ⟨S8x32x2048, .f32⟩
  | 60 => ⟨S8x2048x32, .f32⟩
  | 61 => ⟨S8x2048x2048, .f32⟩
  | 62 => ⟨S_, .f32⟩
  | 63 => ⟨S8x2048x2048, .f32⟩
  | 64 => ⟨S8x2048x2048, .f32⟩
  | 65 => ⟨S8x32x2048, .f32⟩
  | 66 => ⟨S_, .f32⟩
  | 67 => ⟨S8x2048, .f32⟩
  | 68 => ⟨S8x1x2048, .f32⟩
  | 69 => ⟨S8x1x2048, .f32⟩
  | 70 => ⟨S8x2048x2048, .f32⟩
  | 71 => ⟨S8x2048x2048, .f32⟩
  | 72 => ⟨S8x2048x1, .f32⟩
  | 73 => ⟨S8x2048x2048, .f32⟩
  | 74 => ⟨S8x2048x2048, .f32⟩
  | 75 => ⟨S8x2048x20, .f32⟩
  | 76 => ⟨S8x2048x20, .i32⟩
  | 77 => ⟨S8x2048x32, .f32⟩
  | 78 => ⟨S16384x32, .f32⟩
  | 79 => ⟨S8, .i32⟩
  | 80 => ⟨S8x1x1, .i32⟩
  | 81 => ⟨S_, .i32⟩
  | 82 => ⟨S8x1x1, .i32⟩
  | 83 => ⟨S8x1x1, .i32⟩
  | 84 => ⟨S8x2048x20, .i32⟩
  | 85 => ⟨S8x2048x20, .i32⟩
  | 86 => ⟨S327680, .i32⟩
  | 87 => ⟨S_, .i32⟩
  | 88 => ⟨S327680, .i32⟩
  | 89 => ⟨S327680, .i1⟩
  | 90 => ⟨S_, .i32⟩
  | 91 => ⟨S327680, .i32⟩
  | 92 => ⟨S327680, .i32⟩
  | 93 => ⟨S327680, .i32⟩
  | 94 => ⟨S327680x1, .i32⟩
  | 95 => ⟨S327680x32, .f32⟩
  | 96 => ⟨S8x2048x20x32, .f32⟩
  | 97 => ⟨S8x2048x1x32, .f32⟩
  | 98 => ⟨S8x2048x20x32, .f32⟩
  | 99 => ⟨S8x2048x20x32, .f32⟩
  | 100 => ⟨S8x2048x20x64, .f32⟩
  | 101 => ⟨S8x64x2048x20, .f32⟩
  | 102 => ⟨S8x2048x20x64, .f32⟩
  | 103 => ⟨S8x64x2048x20, .f32⟩
  | 104 => ⟨S8x2048x20x64, .f32⟩
  | 105 => ⟨S_, .f32⟩
  | 106 => ⟨S8x2048x20, .f32⟩
  | 107 => ⟨S8x2048x20x1, .f32⟩
  | 108 => ⟨S_, .f32⟩
  | 109 => ⟨S8x2048x20x1, .f32⟩
  | 110 => ⟨S8x2048x20x1, .f32⟩
  | 111 => ⟨S_, .i32⟩
  | 112 => ⟨S_, .f32⟩
  | 113 => ⟨S8x2048x20, .f32⟩
  | 114 => ⟨S8x2048x20x1, .f32⟩
  | 115 => ⟨S_, .f32⟩
  | 116 => ⟨S8x2048x20x1, .f32⟩
  | 117 => ⟨S8x2048x20x1, .f32⟩
  | 118 => ⟨S8x2048x20x64, .f32⟩
  | 119 => ⟨S8x2048x20x64, .f32⟩
  | 120 => ⟨S8x2048x20x64, .f32⟩
  | 121 => ⟨S_, .f32⟩
  | 122 => ⟨S_, .f32⟩
  | 123 => ⟨S_, .f32⟩
  | 124 => ⟨S_, .f32⟩
  | 125 => ⟨S8x2048x20, .f32⟩
  | 126 => ⟨S8x2048x20x1, .f32⟩
  | 127 => ⟨S8x2048x20x1, .f32⟩
  | _ => ⟨S8x3x2048, .f32⟩

abbrev hbmTy0_3 (i : Nat) : BufTy := match i % 128 with
  | 0 => ⟨S8x2048x20x1, .f32⟩
  | 1 => ⟨S_, .f32⟩
  | 2 => ⟨S_, .i1⟩
  | 3 => ⟨S_, .f32⟩
  | 4 => ⟨S_, .f32⟩
  | 5 => ⟨S8x2048x20x1, .f32⟩
  | 6 => ⟨S8x2048x20x1, .f32⟩
  | 7 => ⟨S8x2048x20x64, .f32⟩
  | 8 => ⟨S8x2048x20x64, .f32⟩
  | 9 => ⟨S_, .f32⟩
  | 10 => ⟨S8x2048x20x1, .f32⟩
  | 11 => ⟨S8x2048x20x1, .f32⟩
  | 12 => ⟨S8x2048x20x1, .f32⟩
  | 13 => ⟨S8x2048x20x64, .f32⟩
  | 14 => ⟨S8x2048x20x64, .f32⟩
  | 15 => ⟨S1x1x1x64, .f32⟩
  | 16 => ⟨S8x2048x20x64, .f32⟩
  | 17 => ⟨S8x2048x20x64, .f32⟩
  | 18 => ⟨S1x1x1x64, .f32⟩
  | 19 => ⟨S8x2048x20x64, .f32⟩
  | 20 => ⟨S8x2048x20x64, .f32⟩
  | 21 => ⟨S8x64x2048x20, .f32⟩
  | 22 => ⟨S_, .f32⟩
  | 23 => ⟨S8x64x2048x20, .f32⟩
  | 24 => ⟨S8x64x2048x20, .i1⟩
  | 25 => ⟨S_, .f32⟩
  | 26 => ⟨S8x64x2048x20, .f32⟩
  | 27 => ⟨S8x64x2048x20, .f32⟩
  | 28 => ⟨S8x64x2048x20, .f32⟩
  | 29 => ⟨S_, .f32⟩
  | 30 => ⟨S8x64x2048, .f32⟩
  | 31 => ⟨S8x2048x64, .f32⟩
  | 32 => ⟨S8x64x2048, .f32⟩
  | 33 => ⟨S8x64x2048, .f32⟩
  | 34 => ⟨S8x128x2048, .f32⟩
  | _ => ⟨S8x3x2048, .f32⟩

abbrev hbmTy (i : Nat) : BufTy := match i / 128 with
  | 0 => hbmTy0_0 i
  | 1 => hbmTy0_1 i
  | 2 => hbmTy0_2 i
  | 3 => hbmTy0_3 i
  | _ => ⟨S8x3x2048, .f32⟩

abbrev bufTy : (tb : Table) → Fin (tcTables nBuf tb) → BufTy
  | .hbm, ⟨i, _⟩ => hbmTy i
  | _, _ => ⟨S8x3x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_values : Ref sig .tc := ⟨.hbm, 30, rfl⟩
abbrev main_indices : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_1 : Ref sig .tc := ⟨.hbm, 42, rfl⟩
abbrev main_v22 : Ref sig .tc := ⟨.hbm, 43, rfl⟩
abbrev main_v23 : Ref sig .tc := ⟨.hbm, 44, rfl⟩
abbrev main_c_2 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_3 : Ref sig .tc := ⟨.hbm, 60, rfl⟩
abbrev main_v38 : Ref sig .tc := ⟨.hbm, 61, rfl⟩
abbrev main_v39 : Ref sig .tc := ⟨.hbm, 62, rfl⟩
abbrev main_cst_4 : Ref sig .tc := ⟨.hbm, 63, rfl⟩
abbrev main_v40 : Ref sig .tc := ⟨.hbm, 64, rfl⟩
abbrev main_v41 : Ref sig .tc := ⟨.hbm, 65, rfl⟩
abbrev main_c_5 : Ref sig .tc := ⟨.hbm, 66, rfl⟩
abbrev main_call0_cst : Ref sig .tc := ⟨.hbm, 67, rfl⟩
abbrev main_call0_v0 : Ref sig .tc := ⟨.hbm, 68, rfl⟩
abbrev main_call0_v1 : Ref sig .tc := ⟨.hbm, 69, rfl⟩
abbrev main_call0_cst_0 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_v5 : Ref sig .tc := ⟨.hbm, 74, rfl⟩
abbrev main_call0_v6 : Ref sig .tc := ⟨.hbm, 75, rfl⟩
abbrev main_call0_v7 : Ref sig .tc := ⟨.hbm, 76, rfl⟩
abbrev main_call0_cst_1 : Ref sig .tc := ⟨.hbm, 77, rfl⟩
abbrev main_call0_v8 : Ref sig .tc := ⟨.hbm, 78, rfl⟩
abbrev main_call0_cst_2 : Ref sig .tc := ⟨.hbm, 79, rfl⟩
abbrev main_call0_v9 : Ref sig .tc := ⟨.hbm, 80, rfl⟩
abbrev main_call0_v10 : Ref sig .tc := ⟨.hbm, 81, rfl⟩
abbrev main_call0_v11 : Ref sig .tc := ⟨.hbm, 82, rfl⟩
abbrev main_call0_v12 : Ref sig .tc := ⟨.hbm, 83, rfl⟩
abbrev main_call0_cst_3 : Ref sig .tc := ⟨.hbm, 84, rfl⟩
abbrev main_call0_v13 : Ref sig .tc := ⟨.hbm, 85, rfl⟩
abbrev main_call0_cst_4 : Ref sig .tc := ⟨.hbm, 86, rfl⟩
abbrev main_call0_call0_v0 : Ref sig .tc := ⟨.hbm, 87, rfl⟩
abbrev main_call0_call0_v1 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_cst_6 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_cst_7 : Ref sig .tc := ⟨.hbm, 105, rfl⟩
abbrev main_v57 : Ref sig .tc := ⟨.hbm, 106, rfl⟩
abbrev main_v58 : Ref sig .tc := ⟨.hbm, 107, rfl⟩
abbrev main_cst_8 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_cst_9 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_cst_10 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_cst_11 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_values_12 : Ref sig .tc := ⟨.hbm, 129, rfl⟩
abbrev main_indices_13 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_c_14 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_c_15 : Ref sig .tc := ⟨.hbm, 141, rfl⟩
abbrev main_v85 : Ref sig .tc := ⟨.hbm, 142, rfl⟩
abbrev main_v86 : Ref sig .tc := ⟨.hbm, 143, rfl⟩
abbrev main_c_16 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_cst_17 : Ref sig .tc := ⟨.hbm, 159, rfl⟩
abbrev main_v101 : Ref sig .tc := ⟨.hbm, 160, rfl⟩
abbrev main_v102 : Ref sig .tc := ⟨.hbm, 161, rfl⟩
abbrev main_cst_18 : Ref sig .tc := ⟨.hbm, 162, rfl⟩
abbrev main_v103 : Ref sig .tc := ⟨.hbm, 163, rfl⟩
abbrev main_v104 : Ref sig .tc := ⟨.hbm, 164, rfl⟩
abbrev main_c_19 : Ref sig .tc := ⟨.hbm, 165, rfl⟩
abbrev main_call2_cst : Ref sig .tc := ⟨.hbm, 166, rfl⟩
abbrev main_call2_v0 : Ref sig .tc := ⟨.hbm, 167, rfl⟩
abbrev main_call2_v1 : Ref sig .tc := ⟨.hbm, 168, rfl⟩
abbrev main_call2_cst_0 : Ref sig .tc := ⟨.hbm, 169, rfl⟩
abbrev main_call2_v2 : Ref sig .tc := ⟨.hbm, 170, rfl⟩
abbrev main_call2_v3 : Ref sig .tc := ⟨.hbm, 171, rfl⟩
abbrev main_call2_v4 : Ref sig .tc := ⟨.hbm, 172, rfl⟩
abbrev main_call2_v5 : Ref sig .tc := ⟨.hbm, 173, rfl⟩
abbrev main_call2_v6 : Ref sig .tc := ⟨.hbm, 174, rfl⟩
abbrev main_call2_v7 : Ref sig .tc := ⟨.hbm, 175, rfl⟩
abbrev main_call2_cst_1 : Ref sig .tc := ⟨.hbm, 176, rfl⟩
abbrev main_call2_v8 : Ref sig .tc := ⟨.hbm, 177, rfl⟩
abbrev main_call2_cst_2 : Ref sig .tc := ⟨.hbm, 178, rfl⟩
abbrev main_call2_v9 : Ref sig .tc := ⟨.hbm, 179, rfl⟩
abbrev main_call2_v10 : Ref sig .tc := ⟨.hbm, 180, rfl⟩
abbrev main_call2_v11 : Ref sig .tc := ⟨.hbm, 181, rfl⟩
abbrev main_call2_v12 : Ref sig .tc := ⟨.hbm, 182, rfl⟩
abbrev main_call2_cst_3 : Ref sig .tc := ⟨.hbm, 183, rfl⟩
abbrev main_call2_v13 : Ref sig .tc := ⟨.hbm, 184, rfl⟩
abbrev main_call2_cst_4 : Ref sig .tc := ⟨.hbm, 185, rfl⟩
abbrev main_call2_call0_v0 : Ref sig .tc := ⟨.hbm, 186, rfl⟩
abbrev main_call2_call0_v1 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_cst_20 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_cst_21 : Ref sig .tc := ⟨.hbm, 204, rfl⟩
abbrev main_v120 : Ref sig .tc := ⟨.hbm, 205, rfl⟩
abbrev main_v121 : Ref sig .tc := ⟨.hbm, 206, rfl⟩
abbrev main_cst_22 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_cst_23 : Ref sig .tc := ⟨.hbm, 211, rfl⟩
abbrev main_v125 : Ref sig .tc := ⟨.hbm, 212, rfl⟩
abbrev main_v126 : Ref sig .tc := ⟨.hbm, 213, rfl⟩
abbrev main_v127 : Ref sig .tc := ⟨.hbm, 214, rfl⟩
abbrev main_v128 : Ref sig .tc := ⟨.hbm, 215, rfl⟩
abbrev main_cst_24 : Ref sig .tc := ⟨.hbm, 216, rfl⟩
abbrev main_v129 : Ref sig .tc := ⟨.hbm, 217, rfl⟩
abbrev main_v130 : Ref sig .tc := ⟨.hbm, 218, rfl⟩
abbrev main_v131 : Ref sig .tc := ⟨.hbm, 219, rfl⟩
abbrev main_cst_25 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_values_26 : Ref sig .tc := ⟨.hbm, 229, rfl⟩
abbrev main_indices_27 : Ref sig .tc := ⟨.hbm, 230, rfl⟩
abbrev main_v140 : Ref sig .tc := ⟨.hbm, 231, rfl⟩
abbrev main_v141 : Ref sig .tc := ⟨.hbm, 232, rfl⟩
abbrev main_v142 : Ref sig .tc := ⟨.hbm, 233, rfl⟩
abbrev main_v143 : Ref sig .tc := ⟨.hbm, 234, rfl⟩
abbrev main_c_28 : Ref sig .tc := ⟨.hbm, 235, rfl⟩
abbrev main_v144 : Ref sig .tc := ⟨.hbm, 236, rfl⟩
abbrev main_v145 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_c_29 : Ref sig .tc := ⟨.hbm, 241, rfl⟩
abbrev main_v149 : Ref sig .tc := ⟨.hbm, 242, rfl⟩
abbrev main_v150 : Ref sig .tc := ⟨.hbm, 243, rfl⟩
abbrev main_c_30 : Ref sig .tc := ⟨.hbm, 244, rfl⟩
abbrev main_v151 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_v155 : Ref sig .tc := ⟨.hbm, 249, rfl⟩
abbrev main_v156 : Ref sig .tc := ⟨.hbm, 250, rfl⟩
abbrev main_v157 : Ref sig .tc := ⟨.hbm, 251, rfl⟩
abbrev main_v158 : Ref sig .tc := ⟨.hbm, 252, rfl⟩
abbrev main_v159 : Ref sig .tc := ⟨.hbm, 253, rfl⟩
abbrev main_v160 : Ref sig .tc := ⟨.hbm, 254, rfl⟩
abbrev main_v161 : Ref sig .tc := ⟨.hbm, 255, rfl⟩
abbrev main_v162 : Ref sig .tc := ⟨.hbm, 256, rfl⟩
abbrev main_v163 : Ref sig .tc := ⟨.hbm, 257, rfl⟩
abbrev main_v164 : Ref sig .tc := ⟨.hbm, 258, rfl⟩
abbrev main_cst_31 : Ref sig .tc := ⟨.hbm, 259, rfl⟩
abbrev main_v165 : Ref sig .tc := ⟨.hbm, 260, rfl⟩
abbrev main_v166 : Ref sig .tc := ⟨.hbm, 261, rfl⟩
abbrev main_cst_32 : Ref sig .tc := ⟨.hbm, 262, rfl⟩
abbrev main_v167 : Ref sig .tc := ⟨.hbm, 263, rfl⟩
abbrev main_v168 : Ref sig .tc := ⟨.hbm, 264, rfl⟩
abbrev main_c_33 : Ref sig .tc := ⟨.hbm, 265, rfl⟩
abbrev main_call4_cst : Ref sig .tc := ⟨.hbm, 266, rfl⟩
abbrev main_call4_v0 : Ref sig .tc := ⟨.hbm, 267, rfl⟩
abbrev main_call4_v1 : Ref sig .tc := ⟨.hbm, 268, rfl⟩
abbrev main_call4_cst_0 : Ref sig .tc := ⟨.hbm, 269, rfl⟩
abbrev main_call4_v2 : Ref sig .tc := ⟨.hbm, 270, rfl⟩
abbrev main_call4_v3 : Ref sig .tc := ⟨.hbm, 271, rfl⟩
abbrev main_call4_v4 : Ref sig .tc := ⟨.hbm, 272, rfl⟩
abbrev main_call4_v5 : Ref sig .tc := ⟨.hbm, 273, rfl⟩
abbrev main_call4_v6 : Ref sig .tc := ⟨.hbm, 274, rfl⟩
abbrev main_call4_v7 : Ref sig .tc := ⟨.hbm, 275, rfl⟩
abbrev main_call4_cst_1 : Ref sig .tc := ⟨.hbm, 276, rfl⟩
abbrev main_call4_v8 : Ref sig .tc := ⟨.hbm, 277, rfl⟩
abbrev main_call4_cst_2 : Ref sig .tc := ⟨.hbm, 278, rfl⟩
abbrev main_call4_v9 : Ref sig .tc := ⟨.hbm, 279, rfl⟩
abbrev main_call4_v10 : Ref sig .tc := ⟨.hbm, 280, rfl⟩
abbrev main_call4_v11 : Ref sig .tc := ⟨.hbm, 281, rfl⟩
abbrev main_call4_v12 : Ref sig .tc := ⟨.hbm, 282, rfl⟩
abbrev main_call4_cst_3 : Ref sig .tc := ⟨.hbm, 283, rfl⟩
abbrev main_call4_v13 : Ref sig .tc := ⟨.hbm, 284, rfl⟩
abbrev main_call4_cst_4 : Ref sig .tc := ⟨.hbm, 285, rfl⟩
abbrev main_call4_call0_v0 : Ref sig .tc := ⟨.hbm, 286, rfl⟩
abbrev main_call4_call0_v1 : Ref sig .tc := ⟨.hbm, 287, rfl⟩
abbrev main_v169 : Ref sig .tc := ⟨.hbm, 288, rfl⟩
abbrev main_v170 : Ref sig .tc := ⟨.hbm, 289, rfl⟩
abbrev main_v171 : Ref sig .tc := ⟨.hbm, 290, rfl⟩
abbrev main_cst_34 : Ref sig .tc := ⟨.hbm, 291, rfl⟩
abbrev main_v172 : Ref sig .tc := ⟨.hbm, 292, rfl⟩
abbrev main_v173 : Ref sig .tc := ⟨.hbm, 293, rfl⟩
abbrev main_v174 : Ref sig .tc := ⟨.hbm, 294, rfl⟩
abbrev main_v175 : Ref sig .tc := ⟨.hbm, 295, rfl⟩
abbrev main_v176 : Ref sig .tc := ⟨.hbm, 296, rfl⟩
abbrev main_v177 : Ref sig .tc := ⟨.hbm, 297, rfl⟩
abbrev main_v178 : Ref sig .tc := ⟨.hbm, 298, rfl⟩
abbrev main_v179 : Ref sig .tc := ⟨.hbm, 299, rfl⟩
abbrev main_v180 : Ref sig .tc := ⟨.hbm, 300, rfl⟩
abbrev main_v181 : Ref sig .tc := ⟨.hbm, 301, rfl⟩
abbrev main_v182 : Ref sig .tc := ⟨.hbm, 302, rfl⟩
abbrev main_v183 : Ref sig .tc := ⟨.hbm, 303, rfl⟩
abbrev main_cst_35 : Ref sig .tc := ⟨.hbm, 304, rfl⟩
abbrev main_v184 : Ref sig .tc := ⟨.hbm, 305, rfl⟩
abbrev main_v185 : Ref sig .tc := ⟨.hbm, 306, rfl⟩
abbrev main_cst_36 : Ref sig .tc := ⟨.hbm, 307, rfl⟩
abbrev main_v186 : Ref sig .tc := ⟨.hbm, 308, rfl⟩
abbrev main_v187 : Ref sig .tc := ⟨.hbm, 309, rfl⟩
abbrev main_v188 : Ref sig .tc := ⟨.hbm, 310, rfl⟩
abbrev main_cst_37 : Ref sig .tc := ⟨.hbm, 311, rfl⟩
abbrev main_v189 : Ref sig .tc := ⟨.hbm, 312, rfl⟩
abbrev main_v190 : Ref sig .tc := ⟨.hbm, 313, rfl⟩
abbrev main_v191 : Ref sig .tc := ⟨.hbm, 314, rfl⟩
abbrev main_v192 : Ref sig .tc := ⟨.hbm, 315, rfl⟩
abbrev main_v193 : Ref sig .tc := ⟨.hbm, 316, rfl⟩
abbrev main_v194 : Ref sig .tc := ⟨.hbm, 317, rfl⟩
abbrev main_cst_38 : Ref sig .tc := ⟨.hbm, 318, rfl⟩
abbrev main_v195 : Ref sig .tc := ⟨.hbm, 319, rfl⟩
abbrev main_v196 : Ref sig .tc := ⟨.hbm, 320, rfl⟩
abbrev main_v197 : Ref sig .tc := ⟨.hbm, 321, rfl⟩
abbrev main_cst_39 : Ref sig .tc := ⟨.hbm, 322, rfl⟩
abbrev main_v198 : Ref sig .tc := ⟨.hbm, 323, rfl⟩
abbrev main_v199 : Ref sig .tc := ⟨.hbm, 324, rfl⟩
abbrev main_v200 : Ref sig .tc := ⟨.hbm, 325, rfl⟩
abbrev main_v201 : Ref sig .tc := ⟨.hbm, 326, rfl⟩
abbrev main_v202 : Ref sig .tc := ⟨.hbm, 327, rfl⟩
abbrev main_v203 : Ref sig .tc := ⟨.hbm, 328, rfl⟩
abbrev main_v204 : Ref sig .tc := ⟨.hbm, 329, rfl⟩
abbrev main_v205 : Ref sig .tc := ⟨.hbm, 330, rfl⟩
abbrev main_values_40 : Ref sig .tc := ⟨.hbm, 331, rfl⟩
abbrev main_indices_41 : Ref sig .tc := ⟨.hbm, 332, rfl⟩
abbrev main_v206 : Ref sig .tc := ⟨.hbm, 333, rfl⟩
abbrev main_v207 : Ref sig .tc := ⟨.hbm, 334, rfl⟩
abbrev main_v208 : Ref sig .tc := ⟨.hbm, 335, rfl⟩
abbrev main_v209 : Ref sig .tc := ⟨.hbm, 336, rfl⟩
abbrev main_c_42 : Ref sig .tc := ⟨.hbm, 337, rfl⟩
abbrev main_v210 : Ref sig .tc := ⟨.hbm, 338, rfl⟩
abbrev main_v211 : Ref sig .tc := ⟨.hbm, 339, rfl⟩
abbrev main_v212 : Ref sig .tc := ⟨.hbm, 340, rfl⟩
abbrev main_v213 : Ref sig .tc := ⟨.hbm, 341, rfl⟩
abbrev main_v214 : Ref sig .tc := ⟨.hbm, 342, rfl⟩
abbrev main_c_43 : Ref sig .tc := ⟨.hbm, 343, rfl⟩
abbrev main_v215 : Ref sig .tc := ⟨.hbm, 344, rfl⟩
abbrev main_v216 : Ref sig .tc := ⟨.hbm, 345, rfl⟩
abbrev main_c_44 : Ref sig .tc := ⟨.hbm, 346, rfl⟩
abbrev main_v217 : Ref sig .tc := ⟨.hbm, 347, rfl⟩
abbrev main_v218 : Ref sig .tc := ⟨.hbm, 348, rfl⟩
abbrev main_v219 : Ref sig .tc := ⟨.hbm, 349, rfl⟩
abbrev main_v220 : Ref sig .tc := ⟨.hbm, 350, rfl⟩
abbrev main_v221 : Ref sig .tc := ⟨.hbm, 351, rfl⟩
abbrev main_v222 : Ref sig .tc := ⟨.hbm, 352, rfl⟩
abbrev main_v223 : Ref sig .tc := ⟨.hbm, 353, rfl⟩
abbrev main_v224 : Ref sig .tc := ⟨.hbm, 354, rfl⟩
abbrev main_v225 : Ref sig .tc := ⟨.hbm, 355, rfl⟩
abbrev main_v226 : Ref sig .tc := ⟨.hbm, 356, rfl⟩
abbrev main_v227 : Ref sig .tc := ⟨.hbm, 357, rfl⟩
abbrev main_v228 : Ref sig .tc := ⟨.hbm, 358, rfl⟩
abbrev main_v229 : Ref sig .tc := ⟨.hbm, 359, rfl⟩
abbrev main_v230 : Ref sig .tc := ⟨.hbm, 360, rfl⟩
abbrev main_cst_45 : Ref sig .tc := ⟨.hbm, 361, rfl⟩
abbrev main_v231 : Ref sig .tc := ⟨.hbm, 362, rfl⟩
abbrev main_v232 : Ref sig .tc := ⟨.hbm, 363, rfl⟩
abbrev main_cst_46 : Ref sig .tc := ⟨.hbm, 364, rfl⟩
abbrev main_v233 : Ref sig .tc := ⟨.hbm, 365, rfl⟩
abbrev main_v234 : Ref sig .tc := ⟨.hbm, 366, rfl⟩
abbrev main_c_47 : Ref sig .tc := ⟨.hbm, 367, rfl⟩
abbrev main_call6_cst : Ref sig .tc := ⟨.hbm, 368, rfl⟩
abbrev main_call6_v0 : Ref sig .tc := ⟨.hbm, 369, rfl⟩
abbrev main_call6_v1 : Ref sig .tc := ⟨.hbm, 370, rfl⟩
abbrev main_call6_cst_0 : Ref sig .tc := ⟨.hbm, 371, rfl⟩
abbrev main_call6_v2 : Ref sig .tc := ⟨.hbm, 372, rfl⟩
abbrev main_call6_v3 : Ref sig .tc := ⟨.hbm, 373, rfl⟩
abbrev main_call6_v4 : Ref sig .tc := ⟨.hbm, 374, rfl⟩
abbrev main_call6_v5 : Ref sig .tc := ⟨.hbm, 375, rfl⟩
abbrev main_call6_v6 : Ref sig .tc := ⟨.hbm, 376, rfl⟩
abbrev main_call6_v7 : Ref sig .tc := ⟨.hbm, 377, rfl⟩
abbrev main_call6_cst_1 : Ref sig .tc := ⟨.hbm, 378, rfl⟩
abbrev main_call6_v8 : Ref sig .tc := ⟨.hbm, 379, rfl⟩
abbrev main_call6_cst_2 : Ref sig .tc := ⟨.hbm, 380, rfl⟩
abbrev main_call6_v9 : Ref sig .tc := ⟨.hbm, 381, rfl⟩
abbrev main_call6_v10 : Ref sig .tc := ⟨.hbm, 382, rfl⟩
abbrev main_call6_v11 : Ref sig .tc := ⟨.hbm, 383, rfl⟩
abbrev main_call6_v12 : Ref sig .tc := ⟨.hbm, 384, rfl⟩
abbrev main_call6_cst_3 : Ref sig .tc := ⟨.hbm, 385, rfl⟩
abbrev main_call6_v13 : Ref sig .tc := ⟨.hbm, 386, rfl⟩
abbrev main_call6_cst_4 : Ref sig .tc := ⟨.hbm, 387, rfl⟩
abbrev main_call6_call0_v0 : Ref sig .tc := ⟨.hbm, 388, rfl⟩
abbrev main_call6_call0_v1 : Ref sig .tc := ⟨.hbm, 389, rfl⟩
abbrev main_v235 : Ref sig .tc := ⟨.hbm, 390, rfl⟩
abbrev main_v236 : Ref sig .tc := ⟨.hbm, 391, rfl⟩
abbrev main_v237 : Ref sig .tc := ⟨.hbm, 392, rfl⟩
abbrev main_cst_48 : Ref sig .tc := ⟨.hbm, 393, rfl⟩
abbrev main_v238 : Ref sig .tc := ⟨.hbm, 394, rfl⟩
abbrev main_v239 : Ref sig .tc := ⟨.hbm, 395, rfl⟩
abbrev main_v240 : Ref sig .tc := ⟨.hbm, 396, rfl⟩
abbrev main_v241 : Ref sig .tc := ⟨.hbm, 397, rfl⟩
abbrev main_v242 : Ref sig .tc := ⟨.hbm, 398, rfl⟩
abbrev main_v243 : Ref sig .tc := ⟨.hbm, 399, rfl⟩
abbrev main_v244 : Ref sig .tc := ⟨.hbm, 400, rfl⟩
abbrev main_v245 : Ref sig .tc := ⟨.hbm, 401, rfl⟩
abbrev main_v246 : Ref sig .tc := ⟨.hbm, 402, rfl⟩
abbrev main_v247 : Ref sig .tc := ⟨.hbm, 403, rfl⟩
abbrev main_v248 : Ref sig .tc := ⟨.hbm, 404, rfl⟩
abbrev main_v249 : Ref sig .tc := ⟨.hbm, 405, rfl⟩
abbrev main_cst_49 : Ref sig .tc := ⟨.hbm, 406, rfl⟩
abbrev main_v250 : Ref sig .tc := ⟨.hbm, 407, rfl⟩
abbrev main_v251 : Ref sig .tc := ⟨.hbm, 408, rfl⟩
abbrev main_cst_50 : Ref sig .tc := ⟨.hbm, 409, rfl⟩
abbrev main_v252 : Ref sig .tc := ⟨.hbm, 410, rfl⟩
abbrev main_v253 : Ref sig .tc := ⟨.hbm, 411, rfl⟩
abbrev main_v254 : Ref sig .tc := ⟨.hbm, 412, rfl⟩
abbrev main_cst_51 : Ref sig .tc := ⟨.hbm, 413, rfl⟩
abbrev main_v255 : Ref sig .tc := ⟨.hbm, 414, rfl⟩
abbrev main_v256 : Ref sig .tc := ⟨.hbm, 415, rfl⟩
abbrev main_v257 : Ref sig .tc := ⟨.hbm, 416, rfl⟩
abbrev main_v258 : Ref sig .tc := ⟨.hbm, 417, rfl⟩
abbrev main_v259 : Ref sig .tc := ⟨.hbm, 418, rfl⟩

abbrev nD : Nat := 1
abbrev τ : Topo := Topo.v7x

variable {F : FTy → Type} [FloatOps F]
-- ==== Proof.Edge.lean ====
/-
  One stage of the network over a block of 512 points, as one text for the four kernels: the distances of the block's
  points to all 2048, and the loop's trip — pick the nearest point not picked yet, gather it, apply the edge convolution,
  the layer normalisation and the leaky step, take the running maximum —, over the two channel counts.
-/
module

public import Idealize.ShloMosaic.PureOps
public import Idealize.ShloMosaic.Lib.MatmulPlain

@[expose] public section

noncomputable section

namespace Cert.Edge

open Idealize.ShloMosaic

/-- A vector shape. -/
abbrev S1 (n : Nat) : Shape := ⟨1, ![n]⟩
/-- A matrix shape. -/
abbrev S2 (m n : Nat) : Shape := ⟨2, ![m, n]⟩
/-- A shape of rank three. -/
abbrev S3 (l m n : Nat) : Shape := ⟨3, ![l, m, n]⟩

/-- What the operations of a stage ask of the shapes, `c` channels coming in and `co` going out; `c2` and `c3` are
    twice and three times `c`. -/
structure Sides (c c2 c3 co : Nat) : Prop where
  redD : (S2 512 2048).Reduces [1] (S1 512)
  redO : (S2 512 co).Reduces [1] (S1 512)
  redB : (S2 512 c).Reduces [1] (S1 512)
  redA : (S2 2048 c).Reduces [1] (S1 2048)
  col : (S1 512).ShapeCasts (S2 512 1)
  row : (S1 2048).ShapeCasts (S2 1 2048)
  bD : (S2 512 1).Broadcasts (S2 512 2048)
  bR : (S2 1 2048).Broadcasts (S2 512 2048)
  bO : (S2 512 1).Broadcasts (S2 512 co)
  bG : (S2 1 co).Broadcasts (S2 512 co)
  s0 : (S2 512 c3).Slices ![0, 0] (S2 512 c)
  s1 : (S2 512 c3).Slices ![0, c] (S2 512 c)
  s2 : (S2 512 c3).Slices ![0, c2] (S2 512 c)
  cat2 : Shape.Concatenates [S2 512 c, S2 512 c] (S2 512 c2) 1
  cat3 : Shape.Concatenates [S2 2048 c, S2 2048 c, S2 2048 c] (S2 2048 c3) 1
  cA : (S3 1 2048 c).ShapeCasts (S2 2048 c)
  cB : (S3 1 512 c).ShapeCasts (S2 512 c)
  cW : (S2 c2 co).ShapeCasts (S2 c2 co)
  cG : (S2 1 co).ShapeCasts (S2 1 co)
  cO : (S2 512 co).ShapeCasts (S3 1 512 co)
  lt1 : 1 < 32
  ltb : FTy.bits .bf16 < FTy.bits .f32

variable {F : FTy → Type} [FloatOps F]
variable {c c2 c3 co : Nat} (h : Sides c c2 c3 co)

/-- All points of the batch as a matrix. -/
def allOf (x : FVec F (S3 1 2048 c) .f32) : FVec F (S2 2048 c) .f32 := shapeCast (S2 2048 c) x h.cA
/-- The block's points as a matrix. -/
def blkOf (x : FVec F (S3 1 512 c) .f32) : FVec F (S2 512 c) .f32 := shapeCast (S2 512 c) x h.cB

/-- Minus the squared distance of each of the block's points to each of all points. -/
def dist (xa : FVec F (S3 1 2048 c) .f32) (xb : FVec F (S3 1 512 c) .f32) : FVec F (S2 512 2048) .f32 :=
  have v4 : FVec F (S2 2048 c) .f32 := mulf (allOf h xa) (allOf h xa)
  have v5 : FVec F (S1 2048) .f32 := multiReduction .add [1] (S1 2048) v4 0x00000000#32 h.redA (.inl rfl) rfl
  have v6 : FVec F (S2 512 c) .f32 := mulf (blkOf h xb) (blkOf h xb)
  have v7 : FVec F (S1 512) .f32 := multiReduction .add [1] (S1 512) v6 0x00000000#32 h.redB (.inl rfl) rfl
  have v8 : FVec F (S2 512 2048) .f32 :=
    matmul (DotDims.transposedRhs 512 c 2048) none (blkOf h xb) (allOf h xa) (constant (S2 512 2048) .f32 0x00000000#32)
  have v10 : FVec F (S2 512 2048) .f32 := mulf (broadcast (S2 512 2048) (Scalar.ofBits .f32 0x40000000#32)) v8
  have v12 : FVec F (S2 512 2048) .f32 := broadcastTo (S2 512 2048) (shapeCast (S2 512 1) v7 h.col) h.bD
  have v15 : FVec F (S2 512 2048) .f32 := broadcastTo (S2 512 2048) (shapeCast (S2 1 2048) v5 h.row) h.bR
  subf (subf v10 v12) v15

/-- All points split into a narrow part and two narrow remainders, side by side. -/
def split3 (xa : FVec F (S3 1 2048 c) .f32) : FVec F (S2 2048 c3) .bf16 :=
  have v19 : FVec F (S2 2048 c) .bf16 := truncf .bf16 (allOf h xa) h.ltb
  have v21 : FVec F (S2 2048 c) .f32 := subf (allOf h xa) (extf .f32 v19 h.ltb)
  have v22 : FVec F (S2 2048 c) .bf16 := truncf .bf16 v21 h.ltb
  have v24 : FVec F (S2 2048 c) .f32 := subf v21 (extf .f32 v22 h.ltb)
  have v25 : FVec F (S2 2048 c) .bf16 := truncf .bf16 v24 h.ltb
  concatenate (S2 2048 c3) 1 [⟨S2 2048 c, v19⟩, ⟨S2 2048 c, v22⟩, ⟨S2 2048 c, v25⟩] h.cat3

/-- In each row, the mark of the first place holding the row's maximum. -/
def hit (v27 : IVec (S2 512 2048) 32) (d : FVec F (S2 512 2048) .f32) : IVec (S2 512 2048) 1 :=
  have v38 : FVec F (S1 512) .f32 := multiReduction .maximumf [1] (S1 512) d 0xFF800000#32 h.redD (.inl rfl) rfl
  have v40 : FVec F (S2 512 2048) .f32 := broadcastTo (S2 512 2048) (shapeCast (S2 512 1) v38 h.col) h.bD
  have v43 : IVec (S2 512 2048) 32 := select (cmpf .oeq d v40) v27 (broadcast (S2 512 2048) 2048#32)
  have v44 : IVec (S1 512) 32 := multiReductionI .minsi [1] (S1 512) v43 2147483647#32 h.redD rfl
  have v46 : IVec (S2 512 2048) 32 := broadcastTo (S2 512 2048) (shapeCast (S2 512 1) v44 h.col) h.bD
  cmpi .eq v27 v46

/-- The distances with the place just picked masked. -/
def nextD (v27 : IVec (S2 512 2048) 32) (m : F .f32) (d : FVec F (S2 512 2048) .f32) : FVec F (S2 512 2048) .f32 :=
  select (hit h v27 d) (broadcast (S2 512 2048) m) d

/-- The edge features (picked point minus centre, centre) times the weights. -/
def conv (xb : FVec F (S2 512 c) .f32) (w : FVec F (S2 c2 co) .f32) (xs : FVec F (S2 2048 c3) .bf16)
    (p : IVec (S2 512 2048) 1) : FVec F (S2 512 co) .f32 :=
  have v49 : FVec F (S2 512 2048) .f32 := sitofp .f32 (extui 32 p h.lt1)
  have v53 : FVec F (S2 512 c3) .f32 :=
    matmul (DotDims.plain 512 2048 c3) none (truncf .bf16 v49 h.ltb) xs (constant (S2 512 c3) .f32 0x00000000#32)
  have v56 : FVec F (S2 512 c) .f32 :=
    addf (extractStridedSlice (S2 512 c) ![0, 0] v53 h.s0) (extractStridedSlice (S2 512 c) ![0, c] v53 h.s1)
  have v58 : FVec F (S2 512 c) .f32 := addf v56 (extractStridedSlice (S2 512 c) ![0, c2] v53 h.s2)
  have v59 : FVec F (S2 512 c) .f32 := subf v58 xb
  have v60 : FVec F (S2 512 c2) .f32 := concatenate (S2 512 c2) 1 [⟨S2 512 c, v59⟩, ⟨S2 512 c, xb⟩] h.cat2
  matmul (DotDims.plain 512 c2 co) none v60 w (constant (S2 512 co) .f32 0x00000000#32)

/-- Layer normalisation over the channels, `cw` the word of their count. -/
def norm (cw : BitVec 32) (g b : FVec F (S2 1 co) .f32) (y : FVec F (S2 512 co) .f32) : FVec F (S2 512 co) .f32 :=
  have v62 : FVec F (S1 512) .f32 := multiReduction .add [1] (S1 512) y 0x00000000#32 h.redO (.inl rfl) rfl
  have v65 : FVec F (S2 512 1) .f32 :=
    divf (shapeCast (S2 512 1) v62 h.col) (broadcast (S2 512 1) (Scalar.ofBits .f32 cw))
  have v67 : FVec F (S2 512 co) .f32 := subf y (broadcastTo (S2 512 co) v65 h.bO)
  have v69 : FVec F (S1 512) .f32 := multiReduction .add [1] (S1 512) (mulf v67 v67) 0x00000000#32 h.redO (.inl rfl) rfl
  have v72 : FVec F (S2 512 1) .f32 :=
    divf (shapeCast (S2 512 1) v69 h.col) (broadcast (S2 512 1) (Scalar.ofBits .f32 cw))
  have v75 : FVec F (S2 512 1) .f32 := rsqrt (addf v72 (broadcast (S2 512 1) (Scalar.ofBits .f32 0x3727C5AC#32)))
  have v79 : FVec F (S2 512 co) .f32 := mulf (mulf v67 (broadcastTo (S2 512 co) v75 h.bO)) (broadcastTo (S2 512 co) g h.bG)
  addf v79 (broadcastTo (S2 512 co) b h.bG)

/-- The leaky step. -/
def leaky (y : FVec F (S2 512 co) .f32) : FVec F (S2 512 co) .f32 :=
  select (cmpf .ogt y (broadcast (S2 512 co) (Scalar.ofBits .f32 0x00000000#32))) y
    (mulf (broadcast (S2 512 co) (Scalar.ofBits .f32 0x3E4CCCCD#32)) y)

/-- One pick: the distances masked at it, and the running maximum with its features. -/
def step (cw : BitVec 32) (m : F .f32) (v27 : IVec (S2 512 2048) 32) (xb : FVec F (S2 512 c) .f32)
    (w : FVec F (S2 c2 co) .f32) (xs : FVec F (S2 2048 c3) .bf16) (g b : FVec F (S2 1 co) .f32)
    (s : FVec F (S2 512 2048) .f32 × FVec F (S2 512 co) .f32) : FVec F (S2 512 2048) .f32 × FVec F (S2 512 co) .f32 :=
  (nextD h v27 m s.1, maximumf s.2 (leaky (norm h cw g b (conv h xb w xs (hit h v27 s.1)))))

/-- The loop's trip: ten picks. -/
def trip (cw : BitVec 32) (m : F .f32) (v27 : IVec (S2 512 2048) 32) (xb : FVec F (S2 512 c) .f32)
    (w : FVec F (S2 c2 co) .f32) (xs : FVec F (S2 2048 c3) .bf16) (g b : FVec F (S2 1 co) .f32)
    (s : FVec F (S2 512 2048) .f32 × FVec F (S2 512 co) .f32) : FVec F (S2 512 2048) .f32 × FVec F (S2 512 co) .f32 :=
  let f := step h cw m v27 xb w xs g b
  f (f (f (f (f (f (f (f (f (f s)))))))))

/-- The distances left and the running maximum after the loop's two trips of ten picks. -/
def picks (cw : BitVec 32) (m : F .f32) (v27 : IVec (S2 512 2048) 32) (xa : FVec F (S3 1 2048 c) .f32)
    (xb : FVec F (S3 1 512 c) .f32) (w : FVec F (S2 c2 co) .f32) (g b : FVec F (S2 1 co) .f32) :
    FVec F (S2 512 2048) .f32 × FVec F (S2 512 co) .f32 :=
  let t := trip h cw m v27 (blkOf h xb) (shapeCast (S2 c2 co) w h.cW) (split3 h xa) (shapeCast (S2 1 co) g h.cG)
    (shapeCast (S2 1 co) b h.cG)
  t (t (dist h xa xb, broadcast (S2 512 co) m))

/-- The stage of a block: the running maximum after all twenty picks. -/
def stage (cw : BitVec 32) (m : F .f32) (v27 : IVec (S2 512 2048) 32) (xa : FVec F (S3 1 2048 c) .f32)
    (xb : FVec F (S3 1 512 c) .f32) (w : FVec F (S2 c2 co) .f32) (g b : FVec F (S2 1 co) .f32) : FVec F (S2 512 co) .f32 :=
  (picks h cw m v27 xa xb w g b).2

/-- Folding one map over two trips applies it twice. -/
theorem fold_two {σ : Type} {n : Nat} (hn : n = 2) (g : σ → σ) (x : σ) :
    (List.finRange n).foldl (fun acc _ => g acc) x = g (g x) := by
  subst hn; rfl

end Cert.Edge

end
-- ==== Proof.KernelIdealLoops.lean ====
/-
  The loops of the four kernels of `KernelIdeal`: each trip issues nothing and returns the ten picks of `Edge.trip`, so each
  loop returns `Edge.picks` of the blocks loaded before it.
-/
module

public import proofs.«01_k».proof.Proof.Gen.KernelIdeal.Skeleton
public import proofs.«01_k».proof.Proof.Edge
public import Idealize.ShloMosaic.Lib.Exec.Context

@[expose] public section

set_option maxRecDepth 65536

noncomputable section

namespace Cert.KernelIdeal.Run

open Cert.KernelIdeal Cert.KernelIdeal.Gen Idealize.ShloMosaic Idealize.SL.Sem

variable {F : FTy → Type} [FloatOps F] [Named F]

/-- The value a picked distance is masked with. -/
abbrev mask : F .f32 := Named.named κ "masked" 0xFF61B1E6#32

/-- The lane numbers 0 … 2047 in every row. -/
abbrev lanes : IVec S512x2048 32 := iota .tc S512x2048 32 [1] iota_S512x2048_d1_w32

/-! ## Kernel 0: 3 channels to 16 -/

/-- Kernel 0's operations fit their shapes. -/
theorem sides0 : Edge.Sides 3 6 9 16 where
  redD := reduces_S512x2048_S512
  redO := reduces_S512x16_S512
  redB := reduces_S512x3_S512
  redA := reduces_S2048x3_S2048
  col := shapeCasts_S512_S512x1
  row := shapeCasts_S2048_S1x2048
  bD := broadcasts_S512x1_S512x2048
  bR := broadcasts_S1x2048_S512x2048
  bO := broadcasts_S512x1_S512x16
  bG := broadcasts_S1x16_S512x16
  s0 := slices_S512x9_o0_0_S512x3
  s1 := slices_S512x9_o0_3_S512x3
  s2 := slices_S512x9_o0_6_S512x3
  cat2 := concatenates_S512x3_S512x3_S512x6_d1
  cat3 := concatenates_S2048x3_S2048x3_S2048x3_S2048x9_d1
  cA := shapeCasts_S1x2048x3_S2048x3
  cB := shapeCasts_S1x512x3_S512x3
  cW := shapeCasts_S6x16_S6x16
  cG := shapeCasts_S1x16_S1x16
  cO := shapeCasts_S512x16_S1x512x16
  lt1 := natLt_1_32
  ltb := bitsLt_bf16_f32

/-- Every pick masks the distances alike. -/
theorem masks0 :
    @k0_pay3 F _ = Edge.nextD sides0 ∧ @k0_pay9 F _ = Edge.nextD sides0 ∧ @k0_pay14 F _ = Edge.nextD sides0 ∧
      @k0_pay18 F _ = Edge.nextD sides0 ∧ @k0_pay23 F _ = Edge.nextD sides0 ∧ @k0_pay28 F _ = Edge.nextD sides0 ∧
      @k0_pay33 F _ = Edge.nextD sides0 ∧ @k0_pay38 F _ = Edge.nextD sides0 ∧ @k0_pay43 F _ = Edge.nextD sides0 ∧
      @k0_pay49 F _ = Edge.nextD sides0 :=
  ⟨rfl, rfl, rfl, rfl, rfl, rfl, rfl, rfl, rfl, rfl⟩

section
variable (i : grid0.Coords)
  (arg2 : Memref sig .tc .vmem S1x2048x3 .f32) (harg2 : arg2.IsWhole)
  (arg3 : Memref sig .tc .vmem S1x512x3 .f32) (harg3 : arg3.IsWhole)
  (arg4 : Memref sig .tc .vmem S6x16 .f32) (harg4 : arg4.IsWhole)
  (arg5 : Memref sig .tc .vmem S1x16 .f32) (harg5 : arg5.IsWhole)
  (arg6 : Memref sig .tc .vmem S1x16 .f32) (harg6 : arg6.IsWhole)
  (arg7 : Memref sig .tc .vmem S1x512x16 .f32) (harg7 : arg7.IsWhole)

/-- A trip of kernel 0 returns its ten picks. -/
theorem trip0 (v0 : Vec F S1x2048x3 .f32) (v2 : Vec F S1x512x3 .f32) (v17 : Vec F S6x16 .f32)
    (v27 : IVec S512x2048 32) (v28 v30 : Vec F S1x16 .f32) (m : F .f32) (k : Fin k0_t1_loop.trips)
    (acc : FVec F S512x2048 .f32 × FVec F S512x16 .f32) :
    k0_t1_body i arg2 harg2 arg3 harg3 arg4 harg4 arg5 harg5 arg6 harg6 arg7 harg7
        v0 v2 v17 v27 v28 v30 m k acc
      = .ret (Edge.trip sides0 0x41800000#32 m v27 (k0_pay53 v2) (k0_pay55 v17) (k0_pay56 v0) (k0_pay57 v28)
          (k0_pay58 v30) acc) := by
  obtain ⟨d, a⟩ := acc
  simp only [k0_t1_body, k0_part1_eq_skeleton, k0_part1_skel, k0_part2_eq_skeleton, k0_part2_skel, k0_part3_eq_skeleton, k0_part3_skel,
    k0_part4_eq_skeleton, k0_part4_skel, k0_part5_eq_skeleton, k0_part5_skel, k0_part6_eq_skeleton, k0_part6_skel,
    k0_part7_eq_skeleton, k0_part7_skel, k0_part8_eq_skeleton, k0_part8_skel, k0_part9_eq_skeleton, k0_part9_skel,
    k0_part10_eq_skeleton, k0_part10_skel]
  simp only [pure_bind]
  simp only [masks0, Edge.trip, Edge.step]
  exact congrArg (fun x => Prog.ret (_, x))
    (congrArg₂ maximumf (congrArg₂ maximumf (congrArg₂ maximumf (congrArg₂ maximumf (congrArg₂ maximumf (congrArg₂
    maximumf (congrArg₂ maximumf (congrArg₂ maximumf (congrArg₂ maximumf (congrArg₂ maximumf rfl rfl) rfl) rfl)
    rfl) rfl) rfl) rfl) rfl) rfl) rfl)

/-- The loop of kernel 0 returns its twenty picks. -/
theorem loop0 (v0 : Vec F S1x2048x3 .f32) (v2 : Vec F S1x512x3 .f32) (v17 : Vec F S6x16 .f32)
    (v28 v30 : Vec F S1x16 .f32) :
    Scf.Loop.for k0_t1_loop k0_t1_ok (k0_pay54 v0 v2, k0_pay59)
        (k0_t1_body i arg2 harg2 arg3 harg3 arg4 harg4 arg5 harg5 arg6 harg6 arg7 harg7
          v0 v2 v17 lanes v28 v30 mask)
      = .ret (Edge.picks sides0 0x41800000#32 mask lanes v0 v2 v17 v28 v30) :=
  (Scf.for_pure _ _ _ _ _ _ (fun _ => Edge.trip sides0 0x41800000#32 mask lanes (k0_pay53 v2) (k0_pay55 v17) (k0_pay56 v0)
      (k0_pay57 v28) (k0_pay58 v30))
    (trip0 i arg2 harg2 arg3 harg3 arg4 harg4 arg5 harg5 arg6 harg6 arg7 harg7 v0 v2 v17 lanes v28 v30 mask)).trans
    (congrArg Prog.ret ((Scf.fold_eq _ _).trans (Edge.fold_two rfl _ _)))

end

/-! ## Kernel 1: 16 channels to 16 -/

/-- Kernel 1's operations fit their shapes. -/
theorem sides1 : Edge.Sides 16 32 48 16 where
  redD := reduces_S512x2048_S512
  redO := reduces_S512x16_S512
  redB := reduces_S512x16_S512
  redA := reduces_S2048x16_S2048
  col := shapeCasts_S512_S512x1
  row := shapeCasts_S2048_S1x2048
  bD := broadcasts_S512x1_S512x2048
  bR := broadcasts_S1x2048_S512x2048
  bO := broadcasts_S512x1_S512x16
  bG := broadcasts_S1x16_S512x16
  s0 := slices_S512x48_o0_0_S512x16
  s1 := slices_S512x48_o0_16_S512x16
  s2 := slices_S512x48_o0_32_S512x16
  cat2 := concatenates_S512x16_S512x16_S512x32_d1
  cat3 := concatenates_S2048x16_S2048x16_S2048x16_S2048x48_d1
  cA := shapeCasts_S1x2048x16_S2048x16
  cB := shapeCasts_S1x512x16_S512x16
  cW := shapeCasts_S32x16_S32x16
  cG := shapeCasts_S1x16_S1x16
  cO := shapeCasts_S512x16_S1x512x16
  lt1 := natLt_1_32
  ltb := bitsLt_bf16_f32

/-- Every pick masks the distances alike. -/
theorem masks1 :
    @k1_pay4 F _ = Edge.nextD sides1 ∧ @k1_pay10 F _ = Edge.nextD sides1 ∧ @k1_pay15 F _ = Edge.nextD sides1 ∧
      @k1_pay19 F _ = Edge.nextD sides1 ∧ @k1_pay24 F _ = Edge.nextD sides1 ∧ @k1_pay29 F _ = Edge.nextD sides1 ∧
      @k1_pay34 F _ = Edge.nextD sides1 ∧ @k1_pay39 F _ = Edge.nextD sides1 ∧ @k1_pay44 F _ = Edge.nextD sides1 ∧
      @k1_pay50 F _ = Edge.nextD sides1 :=
  ⟨rfl, rfl, rfl, rfl, rfl, rfl, rfl, rfl, rfl, rfl⟩

section
variable (i : grid1.Coords)
  (arg2 : Memref sig .tc .vmem S1x2048x16 .f32) (harg2 : arg2.IsWhole)
  (arg3 : Memref sig .tc .vmem S1x512x16 .f32) (harg3 : arg3.IsWhole)
  (arg4 : Memref sig .tc .vmem S32x16 .f32) (harg4 : arg4.IsWhole)
  (arg5 : Memref sig .tc .vmem S1x16 .f32) (harg5 : arg5.IsWhole)
  (arg6 : Memref sig .tc .vmem S1x16 .f32) (harg6 : arg6.IsWhole)
  (arg7 : Memref sig .tc .vmem S1x512x16 .f32) (harg7 : arg7.IsWhole)

/-- A trip of kernel 1 returns its ten picks. -/
theorem trip1 (v0 : Vec F S1x2048x16 .f32) (v2 : Vec F S1x512x16 .f32) (v17 : Vec F S32x16 .f32)
    (v27 : IVec S512x2048 32) (v28 v30 : Vec F S1x16 .f32) (m : F .f32) (k : Fin k1_t1_loop.trips)
    (acc : FVec F S512x2048 .f32 × FVec F S512x16 .f32) :
    k1_t1_body i arg2 harg2 arg3 harg3 arg4 harg4 arg5 harg5 arg6 harg6 arg7 harg7
        v0 v2 v17 v27 v28 v30 m k acc
      = .ret (Edge.trip sides1 0x41800000#32 m v27 (k1_pay54 v2) (k1_pay56 v17) (k1_pay57 v0) (k1_pay58 v28)
          (k1_pay59 v30) acc) := by
  obtain ⟨d, a⟩ := acc
  simp only [k1_t1_body, k1_part1_eq_skeleton, k1_part1_skel, k1_part2_eq_skeleton, k1_part2_skel, k1_part3_eq_skeleton, k1_part3_skel,
    k1_part4_eq_skeleton, k1_part4_skel, k1_part5_eq_skeleton, k1_part5_skel, k1_part6_eq_skeleton, k1_part6_skel,
    k1_part7_eq_skeleton, k1_part7_skel, k1_part8_eq_skeleton, k1_part8_skel, k1_part9_eq_skeleton, k1_part9_skel,
    k1_part10_eq_skeleton, k1_part10_skel]
  simp only [pure_bind]
  simp only [masks1, Edge.trip, Edge.step]
  exact congrArg (fun x => Prog.ret (_, x))
    (congrArg₂ maximumf (congrArg₂ maximumf (congrArg₂ maximumf (congrArg₂ maximumf (congrArg₂ maximumf (congrArg₂
    maximumf (congrArg₂ maximumf (congrArg₂ maximumf (congrArg₂ maximumf (congrArg₂ maximumf rfl rfl) rfl) rfl)
    rfl) rfl) rfl) rfl) rfl) rfl) rfl)

/-- The loop of kernel 1 returns its twenty picks. -/
theorem loop1 (v0 : Vec F S1x2048x16 .f32) (v2 : Vec F S1x512x16 .f32) (v17 : Vec F S32x16 .f32)
    (v28 v30 : Vec F S1x16 .f32) :
    Scf.Loop.for k1_t1_loop k1_t1_ok (k1_pay55 v0 v2, k1_pay60)
        (k1_t1_body i arg2 harg2 arg3 harg3 arg4 harg4 arg5 harg5 arg6 harg6 arg7 harg7
          v0 v2 v17 lanes v28 v30 mask)
      = .ret (Edge.picks sides1 0x41800000#32 mask lanes v0 v2 v17 v28 v30) :=
  (Scf.for_pure _ _ _ _ _ _ (fun _ => Edge.trip sides1 0x41800000#32 mask lanes (k1_pay54 v2) (k1_pay56 v17) (k1_pay57 v0)
      (k1_pay58 v28) (k1_pay59 v30))
    (trip1 i arg2 harg2 arg3 harg3 arg4 harg4 arg5 harg5 arg6 harg6 arg7 harg7 v0 v2 v17 lanes v28 v30 mask)).trans
    (congrArg Prog.ret ((Scf.fold_eq _ _).trans (Edge.fold_two rfl _ _)))

end

/-! ## Kernel 2: 16 channels to 32 -/

/-- Kernel 2's operations fit their shapes. -/
theorem sides2 : Edge.Sides 16 32 48 32 where
  redD := reduces_S512x2048_S512
  redO := reduces_S512x32_S512
  redB := reduces_S512x16_S512
  redA := reduces_S2048x16_S2048
  col := shapeCasts_S512_S512x1
  row := shapeCasts_S2048_S1x2048
  bD := broadcasts_S512x1_S512x2048
  bR := broadcasts_S1x2048_S512x2048
  bO := broadcasts_S512x1_S512x32
  bG := broadcasts_S1x32_S512x32
  s0 := slices_S512x48_o0_0_S512x16
  s1 := slices_S512x48_o0_16_S512x16
  s2 := slices_S512x48_o0_32_S512x16
  cat2 := concatenates_S512x16_S512x16_S512x32_d1
  cat3 := concatenates_S2048x16_S2048x16_S2048x16_S2048x48_d1
  cA := shapeCasts_S1x2048x16_S2048x16
  cB := shapeCasts_S1x512x16_S512x16
  cW := shapeCasts_S32x32_S32x32
  cG := shapeCasts_S1x32_S1x32
  cO := shapeCasts_S512x32_S1x512x32
  lt1 := natLt_1_32
  ltb := bitsLt_bf16_f32

/-- Every pick masks the distances alike. -/
theorem masks2 :
    @k2_pay3 F _ = Edge.nextD sides2 ∧ @k2_pay9 F _ = Edge.nextD sides2 ∧ @k2_pay14 F _ = Edge.nextD sides2 ∧
      @k2_pay18 F _ = Edge.nextD sides2 ∧ @k2_pay23 F _ = Edge.nextD sides2 ∧ @k2_pay28 F _ = Edge.nextD sides2 ∧
      @k2_pay33 F _ = Edge.nextD sides2 ∧ @k2_pay38 F _ = Edge.nextD sides2 ∧ @k2_pay43 F _ = Edge.nextD sides2 ∧
      @k2_pay49 F _ = Edge.nextD sides2 :=
  ⟨rfl, rfl, rfl, rfl, rfl, rfl, rfl, rfl, rfl, rfl⟩

section
variable (i : grid2.Coords)
  (arg2 : Memref sig .tc .vmem S1x2048x16 .f32) (harg2 : arg2.IsWhole)
  (arg3 : Memref sig .tc .vmem S1x512x16 .f32) (harg3 : arg3.IsWhole)
  (arg4 : Memref sig .tc .vmem S32x32 .f32) (harg4 : arg4.IsWhole)
  (arg5 : Memref sig .tc .vmem S1x32 .f32) (harg5 : arg5.IsWhole)
  (arg6 : Memref sig .tc .vmem S1x32 .f32) (harg6 : arg6.IsWhole)
  (arg7 : Memref sig .tc .vmem S16x32 .f32) (harg7 : arg7.IsWhole)
  (arg8 : Memref sig .tc .vmem S1x512x32 .f32) (harg8 : arg8.IsWhole)

/-- A trip of kernel 2 returns its ten picks. -/
theorem trip2 (v0 : Vec F S1x2048x16 .f32) (v2 : Vec F S1x512x16 .f32) (v17 : Vec F S32x32 .f32)
    (v27 : IVec S512x2048 32) (v28 v30 : Vec F S1x32 .f32) (m : F .f32) (k : Fin k2_t1_loop.trips)
    (acc : FVec F S512x2048 .f32 × FVec F S512x32 .f32) :
    k2_t1_body i arg2 harg2 arg3 harg3 arg4 harg4 arg5 harg5 arg6 harg6 arg7 harg7 arg8 harg8
        v0 v2 v17 v27 v28 v30 m k acc
      = .ret (Edge.trip sides2 0x42000000#32 m v27 (k2_pay53 v2) (k2_pay55 v17) (k2_pay56 v0) (k2_pay57 v28)
          (k2_pay58 v30) acc) := by
  obtain ⟨d, a⟩ := acc
  simp only [k2_t1_body, k2_part1_eq_skeleton, k2_part1_skel, k2_part2_eq_skeleton, k2_part2_skel, k2_part3_eq_skeleton, k2_part3_skel,
    k2_part4_eq_skeleton, k2_part4_skel, k2_part5_eq_skeleton, k2_part5_skel, k2_part6_eq_skeleton, k2_part6_skel,
    k2_part7_eq_skeleton, k2_part7_skel, k2_part8_eq_skeleton, k2_part8_skel, k2_part9_eq_skeleton, k2_part9_skel,
    k2_part10_eq_skeleton, k2_part10_skel]
  simp only [pure_bind]
  simp only [masks2, Edge.trip, Edge.step]
  exact congrArg (fun x => Prog.ret (_, x))
    (congrArg₂ maximumf (congrArg₂ maximumf (congrArg₂ maximumf (congrArg₂ maximumf (congrArg₂ maximumf (congrArg₂
    maximumf (congrArg₂ maximumf (congrArg₂ maximumf (congrArg₂ maximumf (congrArg₂ maximumf rfl rfl) rfl) rfl)
    rfl) rfl) rfl) rfl) rfl) rfl) rfl)

/-- The loop of kernel 2 returns its twenty picks. -/
theorem loop2 (v0 : Vec F S1x2048x16 .f32) (v2 : Vec F S1x512x16 .f32) (v17 : Vec F S32x32 .f32)
    (v28 v30 : Vec F S1x32 .f32) :
    Scf.Loop.for k2_t1_loop k2_t1_ok (k2_pay54 v0 v2, k2_pay59)
        (k2_t1_body i arg2 harg2 arg3 harg3 arg4 harg4 arg5 harg5 arg6 harg6 arg7 harg7 arg8 harg8
          v0 v2 v17 lanes v28 v30 mask)
      = .ret (Edge.picks sides2 0x42000000#32 mask lanes v0 v2 v17 v28 v30) :=
  (Scf.for_pure _ _ _ _ _ _ (fun _ => Edge.trip sides2 0x42000000#32 mask lanes (k2_pay53 v2) (k2_pay55 v17) (k2_pay56 v0)
      (k2_pay57 v28) (k2_pay58 v30))
    (trip2 i arg2 harg2 arg3 harg3 arg4 harg4 arg5 harg5 arg6 harg6 arg7 harg7 arg8 harg8 v0 v2 v17 lanes v28 v30 mask)).trans
    (congrArg Prog.ret ((Scf.fold_eq _ _).trans (Edge.fold_two rfl _ _)))

end

/-! ## Kernel 3: 32 channels to 64 -/

/-- Kernel 3's operations fit their shapes. -/
theorem sides3 : Edge.Sides 32 64 96 64 where
  redD := reduces_S512x2048_S512
  redO := reduces_S512x64_S512
  redB := reduces_S512x32_S512
  redA := reduces_S2048x32_S2048
  col := shapeCasts_S512_S512x1
  row := shapeCasts_S2048_S1x2048
  bD := broadcasts_S512x1_S512x2048
  bR := broadcasts_S1x2048_S512x2048
  bO := broadcasts_S512x1_S512x64
  bG := broadcasts_S1x64_S512x64
  s0 := slices_S512x96_o0_0_S512x32
  s1 := slices_S512x96_o0_32_S512x32
  s2 := slices_S512x96_o0_64_S512x32
  cat2 := concatenates_S512x32_S512x32_S512x64_d1
  cat3 := concatenates_S2048x32_S2048x32_S2048x32_S2048x96_d1
  cA := shapeCasts_S1x2048x32_S2048x32
  cB := shapeCasts_S1x512x32_S512x32
  cW := shapeCasts_S64x64_S64x64
  cG := shapeCasts_S1x64_S1x64
  cO := shapeCasts_S512x64_S1x512x64
  lt1 := natLt_1_32
  ltb := bitsLt_bf16_f32

/-- Every pick masks the distances alike. -/
theorem masks3 :
    @k3_pay3 F _ = Edge.nextD sides3 ∧ @k3_pay9 F _ = Edge.nextD sides3 ∧ @k3_pay14 F _ = Edge.nextD sides3 ∧
      @k3_pay18 F _ = Edge.nextD sides3 ∧ @k3_pay23 F _ = Edge.nextD sides3 ∧ @k3_pay28 F _ = Edge.nextD sides3 ∧
      @k3_pay33 F _ = Edge.nextD sides3 ∧ @k3_pay38 F _ = Edge.nextD sides3 ∧ @k3_pay43 F _ = Edge.nextD sides3 ∧
      @k3_pay49 F _ = Edge.nextD sides3 :=
  ⟨rfl, rfl, rfl, rfl, rfl, rfl, rfl, rfl, rfl, rfl⟩

section
variable (i : grid3.Coords)
  (arg2 : Memref sig .tc .vmem S1x2048x32 .f32) (harg2 : arg2.IsWhole)
  (arg3 : Memref sig .tc .vmem S1x512x32 .f32) (harg3 : arg3.IsWhole)
  (arg4 : Memref sig .tc .vmem S64x64 .f32) (harg4 : arg4.IsWhole)
  (arg5 : Memref sig .tc .vmem S1x64 .f32) (harg5 : arg5.IsWhole)
  (arg6 : Memref sig .tc .vmem S1x64 .f32) (harg6 : arg6.IsWhole)
  (arg7 : Memref sig .tc .vmem S32x64 .f32) (harg7 : arg7.IsWhole)
  (arg8 : Memref sig .tc .vmem S1x512x64 .f32) (harg8 : arg8.IsWhole)

/-- A trip of kernel 3 returns its ten picks. -/
theorem trip3 (v0 : Vec F S1x2048x32 .f32) (v2 : Vec F S1x512x32 .f32) (v17 : Vec F S64x64 .f32)
    (v27 : IVec S512x2048 32) (v28 v30 : Vec F S1x64 .f32) (m : F .f32) (k : Fin k3_t1_loop.trips)
    (acc : FVec F S512x2048 .f32 × FVec F S512x64 .f32) :
    k3_t1_body i arg2 harg2 arg3 harg3 arg4 harg4 arg5 harg5 arg6 harg6 arg7 harg7 arg8 harg8
        v0 v2 v17 v27 v28 v30 m k acc
      = .ret (Edge.trip sides3 0x42800000#32 m v27 (k3_pay53 v2) (k3_pay55 v17) (k3_pay56 v0) (k3_pay57 v28)
          (k3_pay58 v30) acc) := by
  obtain ⟨d, a⟩ := acc
  simp only [k3_t1_body, k3_part1_eq_skeleton, k3_part1_skel, k3_part2_eq_skeleton, k3_part2_skel, k3_part3_eq_skeleton, k3_part3_skel,
    k3_part4_eq_skeleton, k3_part4_skel, k3_part5_eq_skeleton, k3_part5_skel, k3_part6_eq_skeleton, k3_part6_skel,
    k3_part7_eq_skeleton, k3_part7_skel, k3_part8_eq_skeleton, k3_part8_skel, k3_part9_eq_skeleton, k3_part9_skel,
    k3_part10_eq_skeleton, k3_part10_skel]
  simp only [pure_bind]
  simp only [masks3, Edge.trip, Edge.step]
  exact congrArg (fun x => Prog.ret (_, x))
    (congrArg₂ maximumf (congrArg₂ maximumf (congrArg₂ maximumf (congrArg₂ maximumf (congrArg₂ maximumf (congrArg₂
    maximumf (congrArg₂ maximumf (congrArg₂ maximumf (congrArg₂ maximumf (congrArg₂ maximumf rfl rfl) rfl) rfl)
    rfl) rfl) rfl) rfl) rfl) rfl) rfl)

/-- The loop of kernel 3 returns its twenty picks. -/
theorem loop3 (v0 : Vec F S1x2048x32 .f32) (v2 : Vec F S1x512x32 .f32) (v17 : Vec F S64x64 .f32)
    (v28 v30 : Vec F S1x64 .f32) :
    Scf.Loop.for k3_t1_loop k3_t1_ok (k3_pay54 v0 v2, k3_pay59)
        (k3_t1_body i arg2 harg2 arg3 harg3 arg4 harg4 arg5 harg5 arg6 harg6 arg7 harg7 arg8 harg8
          v0 v2 v17 lanes v28 v30 mask)
      = .ret (Edge.picks sides3 0x42800000#32 mask lanes v0 v2 v17 v28 v30) :=
  (Scf.for_pure _ _ _ _ _ _ (fun _ => Edge.trip sides3 0x42800000#32 mask lanes (k3_pay53 v2) (k3_pay55 v17) (k3_pay56 v0)
      (k3_pay57 v28) (k3_pay58 v30))
    (trip3 i arg2 harg2 arg3 harg3 arg4 harg4 arg5 harg5 arg6 harg6 arg7 harg7 arg8 harg8 v0 v2 v17 lanes v28 v30 mask)).trans
    (congrArg Prog.ret ((Scf.fold_eq _ _).trans (Edge.fold_two rfl _ _)))

end

end Cert.KernelIdeal.Run

end
-- ==== Proof.KernelIdealRegions.lean ====
/-
  The four kernels of `KernelIdeal` as pipelines: what each body leaves in its output's staging buffer, its triple, the
  pipeline's proof data and the body obligation, all at the contents `V` the region is entered with.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdealLoops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.ValueKit

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## Kernel 0 -/

/-- The block of window `w` at point `t`, read off its array. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

abbrev r0_0 : Rect S1x2048x3 := Rect.unit (s := S1x2048x3) ![0, 0, 0] S1x2048x3.size inb_S1x2048x3_S1x2048x3_0_0_0
abbrev r0_1 : Rect S1x512x3 := Rect.unit (s := S1x512x3) ![0, 0, 0] S1x512x3.size inb_S1x512x3_S1x512x3_0_0_0
abbrev r0_2 : Rect S6x16 := Rect.unit (s := S6x16) ![0, 0] S6x16.size inb_S6x16_S6x16_0_0
abbrev r0_3 : Rect S1x16 := Rect.unit (s := S1x16) ![0, 0] S1x16.size inb_S1x16_S1x16_0_0
abbrev r0_4 : Rect S1x16 := Rect.unit (s := S1x16) ![0, 0] S1x16.size inb_S1x16_S1x16_0_0
abbrev r0_5 : Rect S1x512x16 := Rect.unit (s := S1x512x16) ![0, 0, 0] S1x512x16.size inb_S1x512x16_S1x512x16_0_0_0

/-- What the body leaves in the output's staging buffer, from the input blocks. -/
def out0 (x0 : Vec F S1x2048x3 .f32) (x1 : Vec F S1x512x3 .f32) (x2 : Vec F S6x16 .f32) (x3 : Vec F S1x16 .f32) (x4 : Vec F S1x16 .f32) :
    Vec F S1x512x16 .f32 :=
  View.canon [⟨r0_5, k0_pay1 (Edge.stage sides0 0x41800000#32 mask lanes (View.ld x0 r0_0) (View.ld x1 r0_1)
    (View.ld x2 r0_2) (View.ld x3 r0_3) (View.ld x4 r0_4))⟩]

/-- One store of the whole buffer covers it. -/
theorem cover0 (p0 : Vec F S1x512x16 .f32) (y : S1x512x16.Idx) :
    ∃ pc ∈ ([⟨r0_5, p0⟩] : List (View.Piece (Elt F) S1x512x16 .f32)), y ∈ pc.1.set :=
  View.cover_of_tiled [⟨r0_5, p0⟩] S1x512x16.size (by rfl) y

set_option maxHeartbeats 1000000 in
/-- The body on whole staging buffers leaves the inputs' as they were and the output's at `out0`. -/
theorem sound_kernel0 (c : Dev nD) (E : Set ℕ) (i : grid0.Coords)
    (arg2 : Memref sig .tc .vmem S1x2048x3 .f32) (harg2 : arg2.IsWhole)
    (arg3 : Memref sig .tc .vmem S1x512x3 .f32) (harg3 : arg3.IsWhole)
    (arg4 : Memref sig .tc .vmem S6x16 .f32) (harg4 : arg4.IsWhole)
    (arg5 : Memref sig .tc .vmem S1x16 .f32) (harg5 : arg5.IsWhole)
    (arg6 : Memref sig .tc .vmem S1x16 .f32) (harg6 : arg6.IsWhole)
    (arg7 : Memref sig .tc .vmem S1x512x16 .f32) (harg7 : arg7.IsWhole)
    (x0 : Vec F S1x2048x3 .f32) (x1 : Vec F S1x512x3 .f32) (x2 : Vec F S6x16 .f32) (x3 : Vec F S1x16 .f32) (x4 : Vec F S1x16 .f32)
    (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ (∃ d, owns (c : Thread nD τ) arg7 fullShare d)
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare (out0 x0 x1 x2 x3 x4)) -∗ K ⟨⟩))
      ⊢ wp frame (wpE (defs₀ (F := F)) Variants.none c none) E (cc0__stage_body i arg2 harg2 arg3 harg3 arg4 harg4 arg5 harg5 arg6 harg6 arg7 harg7) K := by
  simp only [cc0__stage_body_eq_skeleton]; unfold cc0__stage_body_skel
  simp only [k0_part11_eq_skeleton]; unfold k0_part11_skel
  dsimp only
  simp only [loop0 i arg2 harg2 arg3 harg3 arg4 harg4 arg5 harg5 arg6 harg6 arg7 harg7]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0 _)

/-- The proof data of pipeline 0: the arrays as entered; after the body the inputs' buffers at their blocks and the
    output's at `out0`; nothing owed; windows on one array share it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 (iblk0 V c 0 t) (iblk0 V c 1 t) (iblk0 V c 2 t) (iblk0 V c 3 t) (iblk0 V c 4 t)
  Φ _ := Pipeline.ΦA spec0 c
  q w := Pipeline.shareOf spec0 w
  owed _ := 0

/-- The arrays are the entry contents. -/
theorem A_eq0 (c : Dev nD) (w : Fin cfg0.W) : (dat0 V c).A w = V c (Pipeline.arrRef spec0 w) := by
  dsimp only [dat0]

/-- What the body leaves, window by window. -/
theorem after0 (c : Dev nD) (t : Fin cfg0.N) :
    (dat0 V c).after 0 t = iblk0 V c 0 t
      ∧ (dat0 V c).after 1 t = iblk0 V c 1 t
      ∧ (dat0 V c).after 2 t = iblk0 V c 2 t
      ∧ (dat0 V c).after 3 t = iblk0 V c 3 t
      ∧ (dat0 V c).after 4 t = iblk0 V c 4 t
      ∧ (dat0 V c).after 5 t = out0 (iblk0 V c 0 t) (iblk0 V c 1 t) (iblk0 V c 2 t) (iblk0 V c 3 t) (iblk0 V c 4 t) := by
  refine ⟨?_, ?_, ?_, ?_, ?_, ?_⟩ <;> dsimp only [dat0]

/-- Each input's staging buffer holds its block at every point. -/
theorem before0 (c : Dev nD) (t : Fin cfg0.N) :
    (∀ d, (dat0 V c).before 0 t d = iblk0 V c 0 t)
      ∧ (∀ d, (dat0 V c).before 1 t d = iblk0 V c 1 t)
      ∧ (∀ d, (dat0 V c).before 2 t d = iblk0 V c 2 t)
      ∧ (∀ d, (dat0 V c).before 3 t d = iblk0 V c 3 t)
      ∧ (∀ d, (dat0 V c).before 4 t d = iblk0 V c 4 t) := by
  refine ⟨?_, ?_, ?_, ?_, ?_⟩ <;> exact fun d =>
    ((dat0 V c).before_in_eq_fetched _ rfl (fun _ => rfl) (fun _ _ _ => rfl)
      (fun t => by simp only [after0]; unfold Dat.blockOf iblk0; rw [A_eq0]; try rfl) t d).trans
      (by unfold Dat.fetched Dat.blockOf iblk0; rw [A_eq0]; try rfl)

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point. -/
theorem sound_body0 (c : Dev nD) (t : Fin cfg0.N) :
    bodyPre0 V c t ⊢ wp frame (wpE (defs₀ (F := F)) Variants.none c none) Set.univ (bodyAt0 t)
      (fun _ => bodyPost0 V c t) := by
  unfold bodyPre0 bodyPost0 bodyAt0
  simp only [before0, after0]
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t` is the body as printed. -/
theorem defs₀_row0 (t : Fin cfg0.N) :
    defs₀ (F := F) .tc cfg0.body (cfg0.bodyArgs t (cfg0.slots t)) = bodyAt0 t := by
  unfold defs₀; rw [Defs.onTc_tc]

/-- The body obligation, at every point. -/
theorem body_obligation0 (c : Dev nD) :
    BodyObligation (dat0 (F := F) V c) (defs₀ (F := F)) Variants.none () Set.univ := fun t => by
  rw [bigSep_W0, bigSep_W0, defs₀_row0]
  exact triple_restated (sound_body0 V c t) rfl .rfl fun _ => .rfl

/-! ## Kernel 1 -/

/-- The block of window `w` at point `t`, read off its array. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

abbrev r1_0 : Rect S1x2048x16 := Rect.unit (s := S1x2048x16) ![0, 0, 0] S1x2048x16.size inb_S1x2048x16_S1x2048x16_0_0_0
abbrev r1_1 : Rect S1x512x16 := Rect.unit (s := S1x512x16) ![0, 0, 0] S1x512x16.size inb_S1x512x16_S1x512x16_0_0_0
abbrev r1_2 : Rect S32x16 := Rect.unit (s := S32x16) ![0, 0] S32x16.size inb_S32x16_S32x16_0_0
abbrev r1_3 : Rect S1x16 := Rect.unit (s := S1x16) ![0, 0] S1x16.size inb_S1x16_S1x16_0_0
abbrev r1_4 : Rect S1x16 := Rect.unit (s := S1x16) ![0, 0] S1x16.size inb_S1x16_S1x16_0_0
abbrev r1_5 : Rect S1x512x16 := Rect.unit (s := S1x512x16) ![0, 0, 0] S1x512x16.size inb_S1x512x16_S1x512x16_0_0_0

/-- What the body leaves in the output's staging buffer, from the input blocks. -/
def out1 (x0 : Vec F S1x2048x16 .f32) (x1 : Vec F S1x512x16 .f32) (x2 : Vec F S32x16 .f32) (x3 : Vec F S1x16 .f32) (x4 : Vec F S1x16 .f32) :
    Vec F S1x512x16 .f32 :=
  View.canon [⟨r1_5, k1_pay2 (k1_pay1 (Edge.stage sides1 0x41800000#32 mask lanes (View.ld x0 r1_0) (View.ld x1 r1_1)
    (View.ld x2 r1_2) (View.ld x3 r1_3) (View.ld x4 r1_4))) (View.ld x1 r1_1)⟩]

/-- One store of the whole buffer covers it. -/
theorem cover1 (p0 : Vec F S1x512x16 .f32) (y : S1x512x16.Idx) :
    ∃ pc ∈ ([⟨r1_5, p0⟩] : List (View.Piece (Elt F) S1x512x16 .f32)), y ∈ pc.1.set :=
  View.cover_of_tiled [⟨r1_5, p0⟩] S1x512x16.size (by rfl) y

set_option maxHeartbeats 1000000 in
/-- The body on whole staging buffers leaves the inputs' as they were and the output's at `out1`. -/
theorem sound_kernel1 (c : Dev nD) (E : Set ℕ) (i : grid1.Coords)
    (arg2 : Memref sig .tc .vmem S1x2048x16 .f32) (harg2 : arg2.IsWhole)
    (arg3 : Memref sig .tc .vmem S1x512x16 .f32) (harg3 : arg3.IsWhole)
    (arg4 : Memref sig .tc .vmem S32x16 .f32) (harg4 : arg4.IsWhole)
    (arg5 : Memref sig .tc .vmem S1x16 .f32) (harg5 : arg5.IsWhole)
    (arg6 : Memref sig .tc .vmem S1x16 .f32) (harg6 : arg6.IsWhole)
    (arg7 : Memref sig .tc .vmem S1x512x16 .f32) (harg7 : arg7.IsWhole)
    (x0 : Vec F S1x2048x16 .f32) (x1 : Vec F S1x512x16 .f32) (x2 : Vec F S32x16 .f32) (x3 : Vec F S1x16 .f32) (x4 : Vec F S1x16 .f32)
    (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ (∃ d, owns (c : Thread nD τ) arg7 fullShare d)
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare (out1 x0 x1 x2 x3 x4)) -∗ K ⟨⟩))
      ⊢ wp frame (wpE (defs₀ (F := F)) Variants.none c none) E (cc1__stage_body_resid i arg2 harg2 arg3 harg3 arg4 harg4 arg5 harg5 arg6 harg6 arg7 harg7) K := by
  simp only [cc1__stage_body_resid_eq_skeleton]; unfold cc1__stage_body_resid_skel
  simp only [k1_part11_eq_skeleton]; unfold k1_part11_skel
  dsimp only
  simp only [loop1 i arg2 harg2 arg3 harg3 arg4 harg4 arg5 harg5 arg6 harg6 arg7 harg7]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (fun y => ?_)).trans ?_
  · obtain ⟨pc, hpc, hy⟩ := cover1 (F := F) _ y
    exact ⟨pc, List.mem_cons.2 (.inl (List.mem_singleton.1 hpc)), hy⟩
  · unfold out1
    sl_unfold_words
    rw [View.canon_cons_unit_lit (h := by decide), View.canon_cons_unit_lit (h := by decide), View.readCov_unit_lit (h := by decide)]
    rfl

/-- The proof data of pipeline 1: the arrays as entered; after the body the inputs' buffers at their blocks and the
    output's at `out1`; nothing owed; windows on one array share it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 (iblk1 V c 0 t) (iblk1 V c 1 t) (iblk1 V c 2 t) (iblk1 V c 3 t) (iblk1 V c 4 t)
  Φ _ := Pipeline.ΦA spec1 c
  q w := Pipeline.shareOf spec1 w
  owed _ := 0

/-- The arrays are the entry contents. -/
theorem A_eq1 (c : Dev nD) (w : Fin cfg1.W) : (dat1 V c).A w = V c (Pipeline.arrRef spec1 w) := by
  dsimp only [dat1]

/-- What the body leaves, window by window. -/
theorem after1 (c : Dev nD) (t : Fin cfg1.N) :
    (dat1 V c).after 0 t = iblk1 V c 0 t
      ∧ (dat1 V c).after 1 t = iblk1 V c 1 t
      ∧ (dat1 V c).after 2 t = iblk1 V c 2 t
      ∧ (dat1 V c).after 3 t = iblk1 V c 3 t
      ∧ (dat1 V c).after 4 t = iblk1 V c 4 t
      ∧ (dat1 V c).after 5 t = out1 (iblk1 V c 0 t) (iblk1 V c 1 t) (iblk1 V c 2 t) (iblk1 V c 3 t) (iblk1 V c 4 t) := by
  refine ⟨?_, ?_, ?_, ?_, ?_, ?_⟩ <;> dsimp only [dat1]

/-- Each input's staging buffer holds its block at every point. -/
theorem before1 (c : Dev nD) (t : Fin cfg1.N) :
    (∀ d, (dat1 V c).before 0 t d = iblk1 V c 0 t)
      ∧ (∀ d, (dat1 V c).before 1 t d = iblk1 V c 1 t)
      ∧ (∀ d, (dat1 V c).before 2 t d = iblk1 V c 2 t)
      ∧ (∀ d, (dat1 V c).before 3 t d = iblk1 V c 3 t)
      ∧ (∀ d, (dat1 V c).before 4 t d = iblk1 V c 4 t) := by
  refine ⟨?_, ?_, ?_, ?_, ?_⟩ <;> exact fun d =>
    ((dat1 V c).before_in_eq_fetched _ rfl (fun _ => rfl) (fun _ _ _ => rfl)
      (fun t => by simp only [after1]; unfold Dat.blockOf iblk1; rw [A_eq1]; try rfl) t d).trans
      (by unfold Dat.fetched Dat.blockOf iblk1; rw [A_eq1]; try rfl)

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point. -/
theorem sound_body1 (c : Dev nD) (t : Fin cfg1.N) :
    bodyPre1 V c t ⊢ wp frame (wpE (defs₀ (F := F)) Variants.none c none) Set.univ (bodyAt1 t)
      (fun _ => bodyPost1 V c t) := by
  unfold bodyPre1 bodyPost1 bodyAt1
  simp only [before1, after1]
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t` is the body as printed. -/
theorem defs₀_row1 (t : Fin cfg1.N) :
    defs₀ (F := F) .tc cfg1.body (cfg1.bodyArgs t (cfg1.slots t)) = bodyAt1 t := by
  unfold defs₀; rw [Defs.onTc_tc]

/-- The body obligation, at every point. -/
theorem body_obligation1 (c : Dev nD) :
    BodyObligation (dat1 (F := F) V c) (defs₀ (F := F)) Variants.none () Set.univ := fun t => by
  rw [bigSep_W1, bigSep_W1, defs₀_row1]
  exact triple_restated (sound_body1 V c t) rfl .rfl fun _ => .rfl

/-! ## Kernel 2 -/

/-- The block of window `w` at point `t`, read off its array. -/
def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

abbrev r2_0 : Rect S1x2048x16 := Rect.unit (s := S1x2048x16) ![0, 0, 0] S1x2048x16.size inb_S1x2048x16_S1x2048x16_0_0_0
abbrev r2_1 : Rect S1x512x16 := Rect.unit (s := S1x512x16) ![0, 0, 0] S1x512x16.size inb_S1x512x16_S1x512x16_0_0_0
abbrev r2_2 : Rect S32x32 := Rect.unit (s := S32x32) ![0, 0] S32x32.size inb_S32x32_S32x32_0_0
abbrev r2_3 : Rect S1x32 := Rect.unit (s := S1x32) ![0, 0] S1x32.size inb_S1x32_S1x32_0_0
abbrev r2_4 : Rect S1x32 := Rect.unit (s := S1x32) ![0, 0] S1x32.size inb_S1x32_S1x32_0_0
abbrev r2_5 : Rect S16x32 := Rect.unit (s := S16x32) ![0, 0] S16x32.size inb_S16x32_S16x32_0_0
abbrev r2_6 : Rect S1x512x32 := Rect.unit (s := S1x512x32) ![0, 0, 0] S1x512x32.size inb_S1x512x32_S1x512x32_0_0_0

/-- What the body leaves in the output's staging buffer, from the input blocks. -/
def out2 (x0 : Vec F S1x2048x16 .f32) (x1 : Vec F S1x512x16 .f32) (x2 : Vec F S32x32 .f32) (x3 : Vec F S1x32 .f32) (x4 : Vec F S1x32 .f32) (x5 : Vec F S16x32 .f32) :
    Vec F S1x512x32 .f32 :=
  View.canon [⟨r2_6, k2_pay1 (k2_pay53 (View.ld x1 r2_1)) (Edge.stage sides2 0x42000000#32 mask lanes (View.ld x0 r2_0) (View.ld x1 r2_1)
    (View.ld x2 r2_2) (View.ld x3 r2_3) (View.ld x4 r2_4)) (View.ld x5 r2_5)⟩]

/-- One store of the whole buffer covers it. -/
theorem cover2 (p0 : Vec F S1x512x32 .f32) (y : S1x512x32.Idx) :
    ∃ pc ∈ ([⟨r2_6, p0⟩] : List (View.Piece (Elt F) S1x512x32 .f32)), y ∈ pc.1.set :=
  View.cover_of_tiled [⟨r2_6, p0⟩] S1x512x32.size (by rfl) y

set_option maxHeartbeats 1000000 in
/-- The body on whole staging buffers leaves the inputs' as they were and the output's at `out2`. -/
theorem sound_kernel2 (c : Dev nD) (E : Set ℕ) (i : grid2.Coords)
    (arg2 : Memref sig .tc .vmem S1x2048x16 .f32) (harg2 : arg2.IsWhole)
    (arg3 : Memref sig .tc .vmem S1x512x16 .f32) (harg3 : arg3.IsWhole)
    (arg4 : Memref sig .tc .vmem S32x32 .f32) (harg4 : arg4.IsWhole)
    (arg5 : Memref sig .tc .vmem S1x32 .f32) (harg5 : arg5.IsWhole)
    (arg6 : Memref sig .tc .vmem S1x32 .f32) (harg6 : arg6.IsWhole)
    (arg7 : Memref sig .tc .vmem S16x32 .f32) (harg7 : arg7.IsWhole)
    (arg8 : Memref sig .tc .vmem S1x512x32 .f32) (harg8 : arg8.IsWhole)
    (x0 : Vec F S1x2048x16 .f32) (x1 : Vec F S1x512x16 .f32) (x2 : Vec F S32x32 .f32) (x3 : Vec F S1x32 .f32) (x4 : Vec F S1x32 .f32) (x5 : Vec F S16x32 .f32)
    (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ (∃ d, owns (c : Thread nD τ) arg8 fullShare d)
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare (out2 x0 x1 x2 x3 x4 x5)) -∗ K ⟨⟩))
      ⊢ wp frame (wpE (defs₀ (F := F)) Variants.none c none) E (cc2__stage_body i arg2 harg2 arg3 harg3 arg4 harg4 arg5 harg5 arg6 harg6 arg7 harg7 arg8 harg8) K := by
  simp only [cc2__stage_body_eq_skeleton]; unfold cc2__stage_body_skel
  simp only [k2_part11_eq_skeleton]; unfold k2_part11_skel
  dsimp only
  simp only [loop2 i arg2 harg2 arg3 harg3 arg4 harg4 arg5 harg5 arg6 harg6 arg7 harg7 arg8 harg8]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2 _)

/-- The proof data of pipeline 2: the arrays as entered; after the body the inputs' buffers at their blocks and the
    output's at `out2`; nothing owed; windows on one array share it. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2 (iblk2 V c 0 t) (iblk2 V c 1 t) (iblk2 V c 2 t) (iblk2 V c 3 t) (iblk2 V c 4 t) (iblk2 V c 5 t)
  Φ _ := Pipeline.ΦA spec2 c
  q w := Pipeline.shareOf spec2 w
  owed _ := 0

/-- The arrays are the entry contents. -/
theorem A_eq2 (c : Dev nD) (w : Fin cfg2.W) : (dat2 V c).A w = V c (Pipeline.arrRef spec2 w) := by
  dsimp only [dat2]

/-- What the body leaves, window by window. -/
theorem after2 (c : Dev nD) (t : Fin cfg2.N) :
    (dat2 V c).after 0 t = iblk2 V c 0 t
      ∧ (dat2 V c).after 1 t = iblk2 V c 1 t
      ∧ (dat2 V c).after 2 t = iblk2 V c 2 t
      ∧ (dat2 V c).after 3 t = iblk2 V c 3 t
      ∧ (dat2 V c).after 4 t = iblk2 V c 4 t
      ∧ (dat2 V c).after 5 t = iblk2 V c 5 t
      ∧ (dat2 V c).after 6 t = out2 (iblk2 V c 0 t) (iblk2 V c 1 t) (iblk2 V c 2 t) (iblk2 V c 3 t) (iblk2 V c 4 t) (iblk2 V c 5 t) := by
  refine ⟨?_, ?_, ?_, ?_, ?_, ?_, ?_⟩ <;> dsimp only [dat2]

/-- Each input's staging buffer holds its block at every point. -/
theorem before2 (c : Dev nD) (t : Fin cfg2.N) :
    (∀ d, (dat2 V c).before 0 t d = iblk2 V c 0 t)
      ∧ (∀ d, (dat2 V c).before 1 t d = iblk2 V c 1 t)
      ∧ (∀ d, (dat2 V c).before 2 t d = iblk2 V c 2 t)
      ∧ (∀ d, (dat2 V c).before 3 t d = iblk2 V c 3 t)
      ∧ (∀ d, (dat2 V c).before 4 t d = iblk2 V c 4 t)
      ∧ (∀ d, (dat2 V c).before 5 t d = iblk2 V c 5 t) := by
  refine ⟨?_, ?_, ?_, ?_, ?_, ?_⟩ <;> exact fun d =>
    ((dat2 V c).before_in_eq_fetched _ rfl (fun _ => rfl) (fun _ _ _ => rfl)
      (fun t => by simp only [after2]; unfold Dat.blockOf iblk2; rw [A_eq2]; try rfl) t d).trans
      (by unfold Dat.fetched Dat.blockOf iblk2; rw [A_eq2]; try rfl)

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point. -/
theorem sound_body2 (c : Dev nD) (t : Fin cfg2.N) :
    bodyPre2 V c t ⊢ wp frame (wpE (defs₀ (F := F)) Variants.none c none) Set.univ (bodyAt2 t)
      (fun _ => bodyPost2 V c t) := by
  unfold bodyPre2 bodyPost2 bodyAt2
  simp only [before2, after2]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t` is the body as printed. -/
theorem defs₀_row2 (t : Fin cfg2.N) :
    defs₀ (F := F) .tc cfg2.body (cfg2.bodyArgs t (cfg2.slots t)) = bodyAt2 t := by
  unfold defs₀; rw [Defs.onTc_tc]

/-- The body obligation, at every point. -/
theorem body_obligation2 (c : Dev nD) :
    BodyObligation (dat2 (F := F) V c) (defs₀ (F := F)) Variants.none () Set.univ := fun t => by
  rw [bigSep_W2, bigSep_W2, defs₀_row2]
  exact triple_restated (sound_body2 V c t) rfl .rfl fun _ => .rfl

/-! ## Kernel 3 -/

/-- The block of window `w` at point `t`, read off its array. -/
def iblk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

abbrev r3_0 : Rect S1x2048x32 := Rect.unit (s := S1x2048x32) ![0, 0, 0] S1x2048x32.size inb_S1x2048x32_S1x2048x32_0_0_0
abbrev r3_1 : Rect S1x512x32 := Rect.unit (s := S1x512x32) ![0, 0, 0] S1x512x32.size inb_S1x512x32_S1x512x32_0_0_0
abbrev r3_2 : Rect S64x64 := Rect.unit (s := S64x64) ![0, 0] S64x64.size inb_S64x64_S64x64_0_0
abbrev r3_3 : Rect S1x64 := Rect.unit (s := S1x64) ![0, 0] S1x64.size inb_S1x64_S1x64_0_0
abbrev r3_4 : Rect S1x64 := Rect.unit (s := S1x64) ![0, 0] S1x64.size inb_S1x64_S1x64_0_0
abbrev r3_5 : Rect S32x64 := Rect.unit (s := S32x64) ![0, 0] S32x64.size inb_S32x64_S32x64_0_0
abbrev r3_6 : Rect S1x512x64 := Rect.unit (s := S1x512x64) ![0, 0, 0] S1x512x64.size inb_S1x512x64_S1x512x64_0_0_0

/-- What the body leaves in the output's staging buffer, from the input blocks. -/
def out3 (x0 : Vec F S1x2048x32 .f32) (x1 : Vec F S1x512x32 .f32) (x2 : Vec F S64x64 .f32) (x3 : Vec F S1x64 .f32) (x4 : Vec F S1x64 .f32) (x5 : Vec F S32x64 .f32) :
    Vec F S1x512x64 .f32 :=
  View.canon [⟨r3_6, k3_pay1 (k3_pay53 (View.ld x1 r3_1)) (Edge.stage sides3 0x42800000#32 mask lanes (View.ld x0 r3_0) (View.ld x1 r3_1)
    (View.ld x2 r3_2) (View.ld x3 r3_3) (View.ld x4 r3_4)) (View.ld x5 r3_5)⟩]

/-- One store of the whole buffer covers it. -/
theorem cover3 (p0 : Vec F S1x512x64 .f32) (y : S1x512x64.Idx) :
    ∃ pc ∈ ([⟨r3_6, p0⟩] : List (View.Piece (Elt F) S1x512x64 .f32)), y ∈ pc.1.set :=
  View.cover_of_tiled [⟨r3_6, p0⟩] S1x512x64.size (by rfl) y

set_option maxHeartbeats 1000000 in
/-- The body on whole staging buffers leaves the inputs' as they were and the output's at `out3`. -/
theorem sound_kernel3 (c : Dev nD) (E : Set ℕ) (i : grid3.Coords)
    (arg2 : Memref sig .tc .vmem S1x2048x32 .f32) (harg2 : arg2.IsWhole)
    (arg3 : Memref sig .tc .vmem S1x512x32 .f32) (harg3 : arg3.IsWhole)
    (arg4 : Memref sig .tc .vmem S64x64 .f32) (harg4 : arg4.IsWhole)
    (arg5 : Memref sig .tc .vmem S1x64 .f32) (harg5 : arg5.IsWhole)
    (arg6 : Memref sig .tc .vmem S1x64 .f32) (harg6 : arg6.IsWhole)
    (arg7 : Memref sig .tc .vmem S32x64 .f32) (harg7 : arg7.IsWhole)
    (arg8 : Memref sig .tc .vmem S1x512x64 .f32) (harg8 : arg8.IsWhole)
    (x0 : Vec F S1x2048x32 .f32) (x1 : Vec F S1x512x32 .f32) (x2 : Vec F S64x64 .f32) (x3 : Vec F S1x64 .f32) (x4 : Vec F S1x64 .f32) (x5 : Vec F S32x64 .f32)
    (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ (∃ d, owns (c : Thread nD τ) arg8 fullShare d)
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare (out3 x0 x1 x2 x3 x4 x5)) -∗ K ⟨⟩))
      ⊢ wp frame (wpE (defs₀ (F := F)) Variants.none c none) E (cc3__stage_body i arg2 harg2 arg3 harg3 arg4 harg4 arg5 harg5 arg6 harg6 arg7 harg7 arg8 harg8) K := by
  simp only [cc3__stage_body_eq_skeleton]; unfold cc3__stage_body_skel
  simp only [k3_part11_eq_skeleton]; unfold k3_part11_skel
  dsimp only
  simp only [loop3 i arg2 harg2 arg3 harg3 arg4 harg4 arg5 harg5 arg6 harg6 arg7 harg7 arg8 harg8]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover3 _)

/-- The proof data of pipeline 3: the arrays as entered; after the body the inputs' buffers at their blocks and the
    output's at `out3`; nothing owed; windows on one array share it. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3 (iblk3 V c 0 t) (iblk3 V c 1 t) (iblk3 V c 2 t) (iblk3 V c 3 t) (iblk3 V c 4 t) (iblk3 V c 5 t)
  Φ _ := Pipeline.ΦA spec3 c
  q w := Pipeline.shareOf spec3 w
  owed _ := 0

/-- The arrays are the entry contents. -/
theorem A_eq3 (c : Dev nD) (w : Fin cfg3.W) : (dat3 V c).A w = V c (Pipeline.arrRef spec3 w) := by
  dsimp only [dat3]

/-- What the body leaves, window by window. -/
theorem after3 (c : Dev nD) (t : Fin cfg3.N) :
    (dat3 V c).after 0 t = iblk3 V c 0 t
      ∧ (dat3 V c).after 1 t = iblk3 V c 1 t
      ∧ (dat3 V c).after 2 t = iblk3 V c 2 t
      ∧ (dat3 V c).after 3 t = iblk3 V c 3 t
      ∧ (dat3 V c).after 4 t = iblk3 V c 4 t
      ∧ (dat3 V c).after 5 t = iblk3 V c 5 t
      ∧ (dat3 V c).after 6 t = out3 (iblk3 V c 0 t) (iblk3 V c 1 t) (iblk3 V c 2 t) (iblk3 V c 3 t) (iblk3 V c 4 t) (iblk3 V c 5 t) := by
  refine ⟨?_, ?_, ?_, ?_, ?_, ?_, ?_⟩ <;> dsimp only [dat3]

/-- Each input's staging buffer holds its block at every point. -/
theorem before3 (c : Dev nD) (t : Fin cfg3.N) :
    (∀ d, (dat3 V c).before 0 t d = iblk3 V c 0 t)
      ∧ (∀ d, (dat3 V c).before 1 t d = iblk3 V c 1 t)
      ∧ (∀ d, (dat3 V c).before 2 t d = iblk3 V c 2 t)
      ∧ (∀ d, (dat3 V c).before 3 t d = iblk3 V c 3 t)
      ∧ (∀ d, (dat3 V c).before 4 t d = iblk3 V c 4 t)
      ∧ (∀ d, (dat3 V c).before 5 t d = iblk3 V c 5 t) := by
  refine ⟨?_, ?_, ?_, ?_, ?_, ?_⟩ <;> exact fun d =>
    ((dat3 V c).before_in_eq_fetched _ rfl (fun _ => rfl) (fun _ _ _ => rfl)
      (fun t => by simp only [after3]; unfold Dat.blockOf iblk3; rw [A_eq3]; try rfl) t d).trans
      (by unfold Dat.fetched Dat.blockOf iblk3; rw [A_eq3]; try rfl)

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point. -/
theorem sound_body3 (c : Dev nD) (t : Fin cfg3.N) :
    bodyPre3 V c t ⊢ wp frame (wpE (defs₀ (F := F)) Variants.none c none) Set.univ (bodyAt3 t)
      (fun _ => bodyPost3 V c t) := by
  unfold bodyPre3 bodyPost3 bodyAt3
  simp only [before3, after3]
  rw [show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ (grid3.coords t) _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t` is the body as printed. -/
theorem defs₀_row3 (t : Fin cfg3.N) :
    defs₀ (F := F) .tc cfg3.body (cfg3.bodyArgs t (cfg3.slots t)) = bodyAt3 t := by
  unfold defs₀; rw [Defs.onTc_tc]

/-- The body obligation, at every point. -/
theorem body_obligation3 (c : Dev nD) :
    BodyObligation (dat3 (F := F) V c) (defs₀ (F := F)) Variants.none () Set.univ := fun t => by
  rw [bigSep_W3, bigSep_W3, defs₀_row3]
  exact triple_restated (sound_body3 V c t) rfl .rfl fun _ => .rfl

end Cert.KernelIdeal.Run

end
-- ==== Proof.KernelIdealRun.lean ====
/-
  The run of `KernelIdeal`: the buffer contents at every boundary between host stretches and kernels, a fold from the launch
  memory; the kernels as segments over "every unscoped buffer at the boundary's contents"; and the launch: every fair
  execution ends with every unscoped buffer at the last boundary's contents and every counter at zero.
-/
module

public import proofs.«01_k».proof.Proof.KernelIdealRegions

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) :=
  [main_arg0, main_arg1, main_arg2, main_arg3, main_arg4, main_arg5, main_arg6, main_arg7, main_arg8, main_arg9,
    main_arg10, main_arg11, main_arg12, main_arg13, main_arg14]

/-- No operation of stretch 0 allocates; -/
theorem fresh0 : (hostOps0 : List (HloOp τ sig (Elt F))).Forall fun op => op.fresh = ∅ := by
  simp only [List.Forall]; repeat' constructor
/-- what it writes, in order; -/
abbrev wr0 : List (Ref sig .tc) := [main_call0_v0, main_call0_v1, main_call0_v2, main_call0_v3]
theorem writes0 : (hostOps0 : List (HloOp τ sig (Elt F))).Forall fun op =>
    op.writes ⊆ (wr0.map (Proc.devRef (τ := τ) .tc)).toFinset :=
  StableHlo.forall_writes_sub_of_map rfl
/-- no argument among it. -/
theorem args0 : ∀ a ∈ argRefs, a ∉ wr0 := ListAll.forall_mem_of_all_decide (by decide +kernel)

/-- No operation of stretch 1 allocates; -/
theorem fresh1 : (hostOps1 : List (HloOp τ sig (Elt F))).Forall fun op => op.fresh = ∅ := by
  simp only [List.Forall]; repeat' constructor
/-- what it writes, in order; -/
abbrev wr1 : List (Ref sig .tc) := [main_call0_v5, main_call0_v6, main_call0_v7]
theorem writes1 : (hostOps1 : List (HloOp τ sig (Elt F))).Forall fun op =>
    op.writes ⊆ (wr1.map (Proc.devRef (τ := τ) .tc)).toFinset :=
  StableHlo.forall_writes_sub_of_map rfl
/-- no argument among it. -/
theorem args1 : ∀ a ∈ argRefs, a ∉ wr1 := ListAll.forall_mem_of_all_decide (by decide +kernel)

/-- No operation of stretch 2 allocates; -/
theorem fresh2 : (hostOps2 : List (HloOp τ sig (Elt F))).Forall fun op => op.fresh = ∅ := by
  simp only [List.Forall]; repeat' constructor
/-- what it writes, in order; -/
abbrev wr2 : List (Ref sig .tc) := [main_call0_v9, main_call0_v10, main_call0_v11, main_call0_v12]
theorem writes2 : (hostOps2 : List (HloOp τ sig (Elt F))).Forall fun op =>
    op.writes ⊆ (wr2.map (Proc.devRef (τ := τ) .tc)).toFinset :=
  StableHlo.forall_writes_sub_of_map rfl
/-- no argument among it. -/
theorem args2 : ∀ a ∈ argRefs, a ∉ wr2 := ListAll.forall_mem_of_all_decide (by decide +kernel)

/-- No operation of stretch 3 allocates; -/
theorem fresh3 : (hostOps3 : List (HloOp τ sig (Elt F))).Forall fun op => op.fresh = ∅ := by
  simp only [List.Forall]; repeat' constructor
/-- what it writes, in order; -/
abbrev wr3 : List (Ref sig .tc) := [main_call0_v14, main_call0_v15, main_call0_v16, main_call0_v17]
theorem writes3 : (hostOps3 : List (HloOp τ sig (Elt F))).Forall fun op =>
    op.writes ⊆ (wr3.map (Proc.devRef (τ := τ) .tc)).toFinset :=
  StableHlo.forall_writes_sub_of_map rfl
/-- no argument among it. -/
theorem args3 : ∀ a ∈ argRefs, a ∉ wr3 := ListAll.forall_mem_of_all_decide (by decide +kernel)

/-- No operation of stretch 4 allocates; -/
theorem fresh4 : (hostOps4 : List (HloOp τ sig (Elt F))).Forall fun op => op.fresh = ∅ := by
  simp only [List.Forall]; repeat' constructor
/-- what it writes, in order; -/
abbrev wr4 : List (Ref sig .tc) := [main_call0_v19, main_v0]
theorem writes4 : (hostOps4 : List (HloOp τ sig (Elt F))).Forall fun op =>
    op.writes ⊆ (wr4.map (Proc.devRef (τ := τ) .tc)).toFinset :=
  StableHlo.forall_writes_sub_of_map rfl
/-- no argument among it. -/
theorem args4 : ∀ a ∈ argRefs, a ∉ wr4 := ListAll.forall_mem_of_all_decide (by decide +kernel)

/-- The buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

/-- After stretch 0. -/
abbrev W1 : Dev nD → Valuation τ sig (Elt F) := fun c => StableHlo.after hostOps0 (W0 m ρ c)
theorem W1_of (c : Dev nD) (r : Ref sig .tc) (h : r ∉ wr0) :
    W1 m ρ c (Proc.devRef .tc r) = W0 m ρ c (Proc.devRef .tc r) :=
  StableHlo.after_of_writes_sub hostOps0 _ writes0 h
theorem W1_args (c : Dev nD) : ∀ a ∈ argRefs, W1 m ρ c (Proc.devRef .tc a) = m ((c : Thread nD τ).loc a) :=
  fun a ha => (W1_of m ρ c a (args0 a ha)).trans (W0_args m ρ c a ha)
/-- The same, read at the TensorCore's references. -/
abbrev V1 : (c : Dev nD) → (b : Ref sig .tc) → Buf (Elt F) ((c : Thread nD τ).loc b) := fun c b => W1 m ρ c b

/-- After kernel 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact (dat0 (V1 m ρ) c).withArrays_arrAt launch₀0.sharedIn _ (A_eq0 (V1 m ρ) c) w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- What is not the kernel's output array keeps its contents across it. -/
theorem W2_of (c : Dev nD) (r : Ref sig .tc)
    (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same, read at the TensorCore's references. -/
abbrev V2 : (c : Dev nD) → (b : Ref sig .tc) → Buf (Elt F) ((c : Thread nD τ).loc b) := fun c b => W2 m ρ c b
theorem hF0 (c : Dev nD) (w : Fin cfg0.W) :
    (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After stretch 1. -/
abbrev W3 : Dev nD → Valuation τ sig (Elt F) := fun c => StableHlo.after hostOps1 (W2 m ρ c)
theorem W3_of (c : Dev nD) (r : Ref sig .tc) (h : r ∉ wr1) :
    W3 m ρ c (Proc.devRef .tc r) = W2 m ρ c (Proc.devRef .tc r) :=
  StableHlo.after_of_writes_sub hostOps1 _ writes1 h
theorem W3_args (c : Dev nD) : ∀ a ∈ argRefs, W3 m ρ c (Proc.devRef .tc a) = m ((c : Thread nD τ).loc a) :=
  fun a ha => (W3_of m ρ c a (args1 a ha)).trans (W2_args m ρ c a ha)
/-- The same, read at the TensorCore's references. -/
abbrev V3 : (c : Dev nD) → (b : Ref sig .tc) → Buf (Elt F) ((c : Thread nD τ).loc b) := fun c b => W3 m ρ c b

/-- After kernel 1: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact (dat1 (V3 m ρ) c).withArrays_arrAt launch₀1.sharedIn _ (A_eq1 (V3 m ρ) c) w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- What is not the kernel's output array keeps its contents across it. -/
theorem W4_of (c : Dev nD) (r : Ref sig .tc)
    (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same, read at the TensorCore's references. -/
abbrev V4 : (c : Dev nD) → (b : Ref sig .tc) → Buf (Elt F) ((c : Thread nD τ).loc b) := fun c b => W4 m ρ c b
theorem hF1 (c : Dev nD) (w : Fin cfg1.W) :
    (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After stretch 2. -/
abbrev W5 : Dev nD → Valuation τ sig (Elt F) := fun c => StableHlo.after hostOps2 (W4 m ρ c)
theorem W5_of (c : Dev nD) (r : Ref sig .tc) (h : r ∉ wr2) :
    W5 m ρ c (Proc.devRef .tc r) = W4 m ρ c (Proc.devRef .tc r) :=
  StableHlo.after_of_writes_sub hostOps2 _ writes2 h
theorem W5_args (c : Dev nD) : ∀ a ∈ argRefs, W5 m ρ c (Proc.devRef .tc a) = m ((c : Thread nD τ).loc a) :=
  fun a ha => (W5_of m ρ c a (args2 a ha)).trans (W4_args m ρ c a ha)
/-- The same, read at the TensorCore's references. -/
abbrev V5 : (c : Dev nD) → (b : Ref sig .tc) → Buf (Elt F) ((c : Thread nD τ).loc b) := fun c b => W5 m ρ c b

/-- After kernel 2: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact (dat2 (V5 m ρ) c).withArrays_arrAt launch₀2.sharedIn _ (A_eq2 (V5 m ρ) c) w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- What is not the kernel's output array keeps its contents across it. -/
theorem W6_of (c : Dev nD) (r : Ref sig .tc)
    (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same, read at the TensorCore's references. -/
abbrev V6 : (c : Dev nD) → (b : Ref sig .tc) → Buf (Elt F) ((c : Thread nD τ).loc b) := fun c b => W6 m ρ c b
theorem hF2 (c : Dev nD) (w : Fin cfg2.W) :
    (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After stretch 3. -/
abbrev W7 : Dev nD → Valuation τ sig (Elt F) := fun c => StableHlo.after hostOps3 (W6 m ρ c)
theorem W7_of (c : Dev nD) (r : Ref sig .tc) (h : r ∉ wr3) :
    W7 m ρ c (Proc.devRef .tc r) = W6 m ρ c (Proc.devRef .tc r) :=
  StableHlo.after_of_writes_sub hostOps3 _ writes3 h
theorem W7_args (c : Dev nD) : ∀ a ∈ argRefs, W7 m ρ c (Proc.devRef .tc a) = m ((c : Thread nD τ).loc a) :=
  fun a ha => (W7_of m ρ c a (args3 a ha)).trans (W6_args m ρ c a ha)
/-- The same, read at the TensorCore's references. -/
abbrev V7 : (c : Dev nD) → (b : Ref sig .tc) → Buf (Elt F) ((c : Thread nD τ).loc b) := fun c b => W7 m ρ c b

/-- After kernel 3: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact (dat3 (V7 m ρ) c).withArrays_arrAt launch₀3.sharedIn _ (A_eq3 (V7 m ρ) c) w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- What is not the kernel's output array keeps its contents across it. -/
theorem W8_of (c : Dev nD) (r : Ref sig .tc)
    (h : ∀ w : Fin cfg3.W, Pipeline.arrRef spec3 w = r → (cfg3.win w).isOut = false) :
    W8 m ρ c (Proc.devRef .tc r) = W7 m ρ c (Proc.devRef .tc r) := by
  by_cases hw : ∃ w : Fin cfg3.W, Pipeline.arrRef spec3 w = r
  · obtain ⟨w, rfl⟩ := hw
    exact (W8_arr m ρ c w).trans (((dat3 (V7 m ρ) c).arrAt_in w (h w rfl) _).trans (A_eq3 (V7 m ρ) c w))
  · exact W8_of_ne m ρ c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn3 a ha)).trans (W7_args m ρ c a ha)
/-- The same, read at the TensorCore's references. -/
abbrev V8 : (c : Dev nD) → (b : Ref sig .tc) → Buf (Elt F) ((c : Thread nD τ).loc b) := fun c b => W8 m ρ c b
theorem hF3 (c : Dev nD) (w : Fin cfg3.W) :
    (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After stretch 4. -/
abbrev W9 : Dev nD → Valuation τ sig (Elt F) := fun c => StableHlo.after hostOps4 (W8 m ρ c)
theorem W9_of (c : Dev nD) (r : Ref sig .tc) (h : r ∉ wr4) :
    W9 m ρ c (Proc.devRef .tc r) = W8 m ρ c (Proc.devRef .tc r) :=
  StableHlo.after_of_writes_sub hostOps4 _ writes4 h
theorem W9_args (c : Dev nD) : ∀ a ∈ argRefs, W9 m ρ c (Proc.devRef .tc a) = m ((c : Thread nD τ).loc a) :=
  fun a ha => (W9_of m ρ c a (args4 a ha)).trans (W8_args m ρ c a ha)
/-- The same, read at the TensorCore's references. -/
abbrev V9 : (c : Dev nD) → (b : Ref sig .tc) → Buf (Elt F) ((c : Thread nD τ).loc b) := fun c b => W9 m ρ c b

/-! ## The proof data family and the thread state -/

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)
set_option backward.isDefEq.respectTransparency.types false in
/-- Kernel 0 over the thread state: entered with every unscoped buffer at `W1`, left with them at `W2`. -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 1 over the thread state: entered with every unscoped buffer at `W3`, left with them at `W4`. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 2 over the thread state: entered with every unscoped buffer at `W5`, left with them at `W6`. -/
def reg2 : Pipeline.RegionSeg (pcfgs (F := F)) adm (pdats m ρ) () defs₀ 𝒱₀ L lv 2 where
  win := launch₀2.win
  block_pos := launch₀2.block_pos
  stage_whole := launch₀2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs_shared (p := 2) (pcfgs (F := F)) adm (pdats m ρ) launch₀2.win launch₀2.sharedIn launch₀2.arr_whole c
      (fun _ _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays_shared (p := 2) (pcfgs (F := F)) adm (Ix := Unit) (Name := ℕ) (U := UR sig nD τ) (Lvl := ℕ)
      launch₀2.win launch₀2.sharedIn launch₀2.arr_whole c (pdats m ρ) (fun _ _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 3 over the thread state: entered with every unscoped buffer at `W7`, left with them at `W8`. -/
def reg3 : Pipeline.RegionSeg (pcfgs (F := F)) adm (pdats m ρ) () defs₀ 𝒱₀ L lv 3 where
  win := launch₀3.win
  block_pos := launch₀3.block_pos
  stage_whole := launch₀3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs_shared (p := 3) (pcfgs (F := F)) adm (pdats m ρ) launch₀3.win launch₀3.sharedIn launch₀3.arr_whole c
      (fun _ _ => rfl) (V7 m ρ c) (A_eq3 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays_shared (p := 3) (pcfgs (F := F)) adm (Ix := Unit) (Name := ℕ) (U := UR sig nD τ) (Lvl := ℕ)
      launch₀3.win launch₀3.sharedIn launch₀3.arr_whole c (pdats m ρ) (fun _ _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main as segments, in order. -/
abbrev segs : List (Pipeline.Seg (pcfgs (F := F)) adm (pdats m ρ) () defs₀ 𝒱₀ L lv) :=
  [ .host (hseg hostOps0 hostOps0_sub fresh0 (W0 m ρ)),
    .region (reg0 m ρ),
    .host (hseg hostOps1 hostOps1_sub fresh1 (W2 m ρ)),
    .region (reg1 m ρ),
    .host (hseg hostOps2 hostOps2_sub fresh2 (W4 m ρ)),
    .region (reg2 m ρ),
    .host (hseg hostOps3 hostOps3_sub fresh3 (W6 m ρ)),
    .region (reg3 m ρ),
    .host (hseg hostOps4 hostOps4_sub fresh4 (W8 m ρ)) ]
/-- @main is the run of its segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- The launch: every fair execution ends, nothing faulting, with every unscoped buffer at the last boundary's contents and
    every counter at zero. -/
theorem run : θ_run defs (onTc (τ := τ) (main (F := F))) ⟨m, fun _ => 0, ρ⟩ (fun r =>
    (∀ c : Dev nD, ∀ b ∈ Pipeline.ucRefs τ sig, r.2.mem (((c : Thread nD τ)).1, b) = W9 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨fun c => h c, funext fun g => hz g (.inr (no_unscoped g.2))⟩)

/-- The final contents of an argument are its launch contents. -/
theorem end_arg (s : (ℓ : Loc nD τ sig) → Buf (Elt F) ℓ) (c : Dev nD)
    (h : ∀ b ∈ Pipeline.ucRefs τ sig, s (((c : Thread nD τ)).1, b) = W9 m ρ c b) (a : Ref sig .tc)
    (ha : a ∈ argRefs) (hs : ¬ (Proc.devRef .tc a : DevRef τ sig).isScoped) :
    s ((c.tc : Thread nD τ).loc a) = m ((c.tc : Thread nD τ).loc a) :=
  (h _ (mem_uc a hs)).trans (W9_args m ρ c a ha)

end Cert.KernelIdeal.Run

end
-- ==== Proof.Picks.lean ====
/-
  The picking of the greatest entries of a row one after another, on the extended reals: round `i` takes the first place
  that holds the greatest entry left and masks it by −∞. The places picked are, in order, the first places of the row's
  stable sort by greater entries, where no entry of the row is −∞.
-/
module

public import Idealize.ShloMosaic.Lib.SortPrefix
public import Idealize.ShloMosaic.PureOps.Ideal

@[expose] public section

noncomputable section

namespace Cert.Picks

open Idealize.ShloMosaic

variable {n : Nat} [NeZero n]

/-- Some place holds the row's greatest entry. -/
theorem exists_greatest (d : Fin n → EReal) : (Finset.univ.filter fun k => ∀ j, d j ≤ d k).Nonempty := by
  obtain ⟨k, -, hk⟩ := Finset.exists_max_image (Finset.univ : Finset (Fin n)) d ⟨0, Finset.mem_univ _⟩
  exact ⟨k, Finset.mem_filter.mpr ⟨Finset.mem_univ _, fun j => hk j (Finset.mem_univ _)⟩⟩

/-- The first place that holds the row's greatest entry. -/
def first (d : Fin n → EReal) : Fin n := (Finset.univ.filter fun k => ∀ j, d j ≤ d k).min' (exists_greatest d)

/-- The entry at the first greatest place is the greatest. -/
theorem le_first (d : Fin n → EReal) (j : Fin n) : d j ≤ d (first d) :=
  (Finset.mem_filter.mp (Finset.min'_mem _ (exists_greatest d))).2 j

/-- No earlier place holds the greatest entry. -/
theorem first_le (d : Fin n → EReal) (k : Fin n) (h : d (first d) ≤ d k) : first d ≤ k :=
  Finset.min'_le _ _ (Finset.mem_filter.mpr ⟨Finset.mem_univ _, fun j => (le_first d j).trans h⟩)

/-- The row after `i` rounds. -/
def left (v : Fin n → EReal) : Nat → Fin n → EReal
  | 0 => v
  | i + 1 => Function.update (left v i) (first (left v i)) ⊥

/-- The place round `i` picks. -/
def pick (v : Fin n → EReal) (i : Nat) : Fin n := first (left v i)

/-- A place not picked before round `i` still has its entry. -/
theorem left_of_fresh (v : Fin n → EReal) (i : Nat) (k : Fin n) (h : ∀ j < i, pick v j ≠ k) : left v i k = v k := by
  induction i with
  | zero => rfl
  | succ i ih =>
    have e : k ≠ first (left v i) := (h i (Nat.lt_succ_self i)).symm
    rw [left, Function.update_of_ne e]
    exact ih fun j hj => h j (Nat.lt_succ_of_lt hj)

/-- A place picked before round `i` is masked. -/
theorem left_of_picked (v : Fin n → EReal) (i j : Nat) (hj : j < i) : left v i (pick v j) = ⊥ := by
  induction i with
  | zero => exact absurd hj (Nat.not_lt_zero j)
  | succ i ih =>
    rw [left]
    by_cases e : pick v j = first (left v i)
    · rw [e, Function.update_self]
    · rw [Function.update_of_ne e]
      refine ih (lt_of_le_of_ne (Nat.le_of_lt_succ hj) ?_)
      rintro rfl
      exact e rfl

/-- A round before the row is used up picks a place not picked before. -/
theorem pick_fresh (v : Fin n → EReal) (hv : ∀ k, v k ≠ ⊥) (i : Nat) (hi : i < n) (j : Nat) (hj : j < i) :
    pick v j ≠ pick v i := by
  intro e
  obtain ⟨k, hk⟩ : ∃ k : Fin n, k ∉ (Finset.range i).image (pick v) := by
    by_contra hall
    push Not at hall
    have h1 : Finset.univ ⊆ (Finset.range i).image (pick v) := fun k _ => hall k
    have h2 := (Finset.card_le_card h1).trans Finset.card_image_le
    rw [Finset.card_univ, Fintype.card_fin, Finset.card_range] at h2
    omega
  have hf : left v i k = v k := left_of_fresh v i k fun j hj e =>
    hk (Finset.mem_image.mpr ⟨j, Finset.mem_range.mpr hj, e⟩)
  have h3 : left v i k ≤ left v i (pick v i) := le_first (left v i) k
  rw [← e, left_of_picked v i j hj, hf] at h3
  exact hv k (le_bot_iff.mp h3)

/-- The entry picked is the row's own. -/
theorem left_pick (v : Fin n → EReal) (hv : ∀ k, v k ≠ ⊥) (i : Nat) (hi : i < n) : left v i (pick v i) = v (pick v i) :=
  left_of_fresh v i _ fun j hj => pick_fresh v hv i hi j hj

/-- A stable sort by a relation is the sort by that relation and then the position. -/
theorem stableSort_refine {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- Greater entries first, equal entries by the position. -/
def before (v : Fin n → EReal) (k k' : Fin n) : Bool :=
  decide (v k' < v k) || (decide (v k = v k') && decide (k < k'))

/-- The stable sort by greater entries puts at place `i` the place that round `i` picks. -/
theorem sortedFrom_eq_pick (v : Fin n → EReal) (hv : ∀ k, v k ≠ ⊥) {K : Nat} (hK : K ≤ n) (i : Fin K) :
    sortedFrom (fun k k' => decide (v k' < v k)) (i.castLE hK) = pick v i.val := by
  classical
  have hB : StrictTotalBefore (before v) :=
    StrictTotalBefore.of_key_then_position (fun a b : EReal => decide (b < a)) v
      (fun a => by simp) (fun a b c hab hbc => by simp only [decide_eq_true_eq] at hab hbc ⊢; exact hbc.trans hab)
      (fun a b => by simp only [decide_eq_true_eq]; rcases lt_trichotomy b a with h | h | h <;> simp [h])
  have e : sortedFrom (fun k k' => decide (v k' < v k)) = sortedFrom (before v) := by
    funext k
    unfold sortedFrom
    have e2 : sortPositions n (fun k k' => decide (v k' < v k)) = sortPositions n (before v) := by
      refine stableSort_refine _ _ _ ((List.pairwise_lt_finRange n).imp fun {a b} hab => ?_)
      simp [before, not_lt_of_gt hab]
    rw [List.get_of_eq e2]
    rfl
  rw [e]
  have hlt : ∀ j : Fin K, j.val < n := fun j => lt_of_lt_of_le j.isLt hK
  refine hB.sortedFrom_eq_of_prefix hK (fun j => pick v j.val) ?_ ?_ ?_ i
  · intro a b hab
    rcases lt_trichotomy a.val b.val with h | h | h
    · exact absurd hab (pick_fresh v hv b.val (hlt b) a.val h)
    · exact Fin.ext h
    · exact absurd hab.symm (pick_fresh v hv a.val (hlt a) b.val h)
  · intro a b hab
    have hf : left v a.val (pick v b.val) = v (pick v b.val) := left_of_fresh v _ _ fun j hj =>
      pick_fresh v hv b.val (hlt b) j (hj.trans hab)
    have h1 := le_first (left v a.val) (pick v b.val)
    have h2 := left_pick v hv a.val (hlt a)
    have h3 := first_le (left v a.val) (pick v b.val)
    change _ ≤ left v a.val (pick v a.val) at h1
    change left v a.val (pick v a.val) ≤ _ → pick v a.val ≤ _ at h3
    rw [h2, hf] at h1 h3
    simp only [before, Bool.or_eq_false_iff, decide_eq_false_iff_not, Bool.and_eq_false_iff]
    refine ⟨not_lt_of_ge h1, ?_⟩
    by_cases e3 : v (pick v b.val) = v (pick v a.val)
    · exact Or.inr (not_lt_of_ge (h3 e3.ge))
    · exact Or.inl e3
  · intro a p hp
    have hf : left v a.val p = v p := left_of_fresh v _ _ fun j hj => hp ⟨j, hj.trans a.isLt⟩
    have h1 := le_first (left v a.val) p
    have h2 := left_pick v hv a.val (hlt a)
    have h3 := first_le (left v a.val) p
    change _ ≤ left v a.val (pick v a.val) at h1
    change left v a.val (pick v a.val) ≤ _ → pick v a.val ≤ _ at h3
    rw [h2, hf] at h1 h3
    simp only [before, Bool.or_eq_false_iff, decide_eq_false_iff_not, Bool.and_eq_false_iff]
    refine ⟨not_lt_of_ge h1, ?_⟩
    by_cases e3 : v p = v (pick v a.val)
    · exact Or.inr (not_lt_of_ge (h3 e3.ge))
    · exact Or.inl e3

end Cert.Picks

end
-- ==== Proof.Spec.lean ====
/-
  The mathematics of one stage of the network on the extended reals: a point's distances to all points, its twenty
  nearest points, the edge features times the weights, the layer normalisation, the leaky step and the maximum over the
  neighbours; and that every stage of real numbers is real.
-/
module

public import proofs.«01_k».proof.Proof.Picks

@[expose] public section

noncomputable section

namespace Cert.Spec

open Idealize.ShloMosaic Cert.Picks

/-- A real number among the extended reals. -/
def IsReal (x : EReal) : Prop := ∃ r : ℝ, x = (r : EReal)

namespace IsReal

theorem coe (r : ℝ) : IsReal (r : EReal) := ⟨r, rfl⟩
theorem zero : IsReal 0 := ⟨0, rfl⟩
theorem add {x y : EReal} (hx : IsReal x) (hy : IsReal y) : IsReal (x + y) := by
  obtain ⟨a, rfl⟩ := hx; obtain ⟨b, rfl⟩ := hy; exact ⟨a + b, by push_cast; rfl⟩
theorem sub {x y : EReal} (hx : IsReal x) (hy : IsReal y) : IsReal (x - y) := by
  obtain ⟨a, rfl⟩ := hx; obtain ⟨b, rfl⟩ := hy; exact ⟨a - b, by push_cast; rfl⟩
theorem mul {x y : EReal} (hx : IsReal x) (hy : IsReal y) : IsReal (x * y) := by
  obtain ⟨a, rfl⟩ := hx; obtain ⟨b, rfl⟩ := hy; exact ⟨a * b, by push_cast; rfl⟩
theorem ite {p : Prop} [Decidable p] {x y : EReal} (hx : IsReal x) (hy : IsReal y) : IsReal (if p then x else y) := by
  split <;> assumption
theorem sum {ι : Type} (s : Finset ι) {f : ι → EReal} (h : ∀ i, IsReal (f i)) : IsReal (∑ i ∈ s, f i) := by
  classical
  induction s using Finset.induction_on with
  | empty => simpa using zero
  | insert a s ha ih => rw [Finset.sum_insert ha]; exact (h a).add ih
theorem ne_bot {x : EReal} (hx : IsReal x) : x ≠ ⊥ := by obtain ⟨a, rfl⟩ := hx; exact EReal.coe_ne_bot a
theorem sub_self {x : EReal} (hx : IsReal x) : x - x = 0 := by
  obtain ⟨a, rfl⟩ := hx; rw [← EReal.coe_sub, _root_.sub_self]; rfl

end IsReal

/-- The small number added to a variance. -/
def eps : EReal := Ideal.ofBits .f32 0x3727C5AC#32
/-- The slope of the leaky step below zero. -/
def slope : EReal := Ideal.ofBits .f32 0x3E4CCCCD#32

theorem isReal_slope : IsReal slope := by
  unfold slope; simp [Ideal.ofBits, Ideal.ieee]
  exact ⟨_, rfl⟩

theorem eps_pos : ∃ r : ℝ, 0 < r ∧ eps = (r : EReal) := by
  unfold eps; simp [Ideal.ofBits, Ideal.ieee]
  exact ⟨_, by positivity, rfl⟩

/-- The word of 2. -/
theorem two_word : Ideal.ofBits .f32 0x40000000#32 = ((2 : ℝ) : EReal) := by
  simp [Ideal.ofBits, Ideal.ieee]
  rw [← EReal.coe_mul]; norm_num

/-- The word of −2. -/
theorem neg_two_word : Ideal.ofBits .f32 0xC0000000#32 = ((-2 : ℝ) : EReal) := by
  simp [Ideal.ofBits, Ideal.ieee]
  rw [← EReal.coe_mul]; norm_num

/-- The word of −∞. -/
theorem bot_word : Ideal.ofBits .f32 0xFF800000#32 = ⊥ := by
  simp [Ideal.ofBits, Ideal.ieee]

variable {n c c2 co : Nat}

/-- Minus the squared distance of two points. -/
def ndist (X : Fin n → Fin c → EReal) (i j : Fin n) : EReal :=
  ((2 : ℝ) : EReal) * (∑ k, X i k * X j k) - (∑ k, X i k * X i k) - ∑ k, X j k * X j k

theorem isReal_ndist {X : Fin n → Fin c → EReal} (hX : ∀ i k, IsReal (X i k)) (i j : Fin n) : IsReal (ndist X i j) :=
  (((IsReal.coe 2).mul (.sum _ fun k => (hX i k).mul (hX j k))).sub (.sum _ fun k => (hX i k).mul (hX i k))).sub
    (.sum _ fun k => (hX j k).mul (hX j k))

/-- The features of the edge to the point `x` from the centre `y`: their difference, then the centre. -/
def feat (hc : c2 = c + c) (x y : Fin c → EReal) (k : Fin c2) : EReal :=
  if h : k.val < c then x ⟨k.val, h⟩ - y ⟨k.val, h⟩ else y ⟨k.val - c, by omega⟩

/-- A row of features times the weights. -/
def lin (W : Fin c2 → Fin co → EReal) (e : Fin c2 → EReal) (o : Fin co) : EReal := ∑ k, e k * W k o

/-- The mean over the channels, `cw` their count. -/
def mean (cw : EReal) (y : Fin co → EReal) : EReal := Ideal.div (∑ o, y o) cw
/-- The variance over the channels. -/
def var (cw : EReal) (y : Fin co → EReal) : EReal := Ideal.div (∑ o, (y o - mean cw y) * (y o - mean cw y)) cw
/-- Layer normalisation over the channels. -/
def norm (cw : EReal) (y g b : Fin co → EReal) (o : Fin co) : EReal :=
  (y o - mean cw y) * Ideal.rsqrt (var cw y + eps) * g o + b o

/-- The quotient by a positive real number is the product by its inverse. -/
theorem div_coe (x : EReal) {r : ℝ} (hr : 0 < r) : Ideal.div x r = x * ((r⁻¹ : ℝ) : EReal) := by
  have h0 : (r : EReal) ≠ 0 := by
    intro h; exact hr.ne' (by exact_mod_cast h)
  rw [Ideal.div, if_neg h0, ← EReal.coe_inv]

/-- A square is not below zero. -/
theorem sq_nonneg (x : EReal) : 0 ≤ x * x := by
  induction x with
  | bot => simp
  | top => simp
  | coe a => rw [← EReal.coe_mul]; exact_mod_cast mul_self_nonneg a

/-- What has a square below plus infinity is a real number. -/
theorem isReal_of_sq {x : EReal} (h : x * x < ⊤) : IsReal x := by
  induction x with
  | bot => simp at h
  | top => simp at h
  | coe a => exact ⟨a, rfl⟩

/-- The variance with the small number added is plus infinity, or it is a positive real number and every difference from the
    mean is real. -/
theorem var_eps {r : ℝ} (hr : 0 < r) (y : Fin co → EReal) :
    var r y + eps = ⊤ ∨ ∃ v : ℝ, 0 < v ∧ var r y + eps = (v : EReal) ∧ ∀ o, IsReal (y o - mean r y) := by
  obtain ⟨w, hw, e⟩ := eps_pos
  have h0 : (0 : EReal) ≤ ∑ o, (y o - mean r y) * (y o - mean r y) := Finset.sum_nonneg fun o _ => sq_nonneg _
  have hi : (0 : ℝ) < r⁻¹ := inv_pos.mpr hr
  have hle : ∀ o, (y o - mean r y) * (y o - mean r y) ≤ ∑ o, (y o - mean r y) * (y o - mean r y) := fun o =>
    Finset.single_le_sum (f := fun o => (y o - mean r y) * (y o - mean r y)) (fun o _ => sq_nonneg _) (Finset.mem_univ o)
  rw [var, div_coe _ hr, e]
  generalize ∑ o, (y o - mean r y) * (y o - mean r y) = d at h0 hle ⊢
  induction d with
  | bot => simp at h0
  | top =>
    left
    rw [EReal.top_mul_coe_of_pos hi]
    rfl
  | coe a =>
    right
    have ha : 0 ≤ a := by exact_mod_cast h0
    exact ⟨a * r⁻¹ + w, by positivity, by push_cast; rfl, fun o => isReal_of_sq ((hle o).trans_lt (EReal.coe_lt_top a))⟩

/-- The root and its inverse of a positive real number. -/
theorem root_pos {v : ℝ} (hv : 0 < v) :
    Ideal.sqrt (v : EReal) = ((Real.sqrt v : ℝ) : EReal) ∧ Ideal.rsqrt (v : EReal) = (((Real.sqrt v)⁻¹ : ℝ) : EReal) :=
  ⟨if_neg (not_lt_of_ge hv.le), by rw [Ideal.rsqrt_coe, if_neg (not_lt_of_ge hv.le), if_neg hv.ne']⟩

/-- Layer normalisation with the division by the root in place of the product by its inverse. -/
theorem norm_eq_div {r : ℝ} (hr : 0 < r) (y g b : Fin co → EReal) (o : Fin co) :
    Ideal.div (y o - mean r y) (Ideal.sqrt (var r y + eps)) * g o + b o = norm r y g b o := by
  rw [norm]
  obtain e | ⟨v, hv, e, -⟩ := var_eps hr y
  · rw [e, Ideal.sqrt_top, Ideal.rsqrt_top, Ideal.div, if_neg EReal.top_ne_zero, EReal.inv_top]
  · rw [e, (root_pos hv).1, (root_pos hv).2, div_coe _ (Real.sqrt_pos.mpr hv)]

/-- Whatever the row, layer normalisation gives real numbers: where the variance is infinite the row becomes zero. -/
theorem isReal_norm {r : ℝ} (hr : 0 < r) (y : Fin co → EReal) {g b : Fin co → EReal} (hg : ∀ o, IsReal (g o))
    (hb : ∀ o, IsReal (b o)) (o : Fin co) : IsReal (norm r y g b o) := by
  rw [norm]
  obtain e | ⟨v, hv, e, hd⟩ := var_eps hr y
  · rw [e, Ideal.rsqrt_top, mul_zero]
    exact (IsReal.zero.mul (hg o)).add (hb o)
  · rw [e, (root_pos hv).2]
    exact (((hd o).mul (.coe _)).mul (hg o)).add (hb o)

/-- The leaky step. -/
def leaky (y : EReal) : EReal := if 0 < y then y else slope * y

theorem isReal_leaky {y : EReal} (hy : IsReal y) : IsReal (leaky y) := .ite hy (isReal_slope.mul hy)

/-- What the edge from the point `i` to the point `j` contributes. -/
def edge (hc : c2 = c + c) (cw : EReal) (X : Fin n → Fin c → EReal) (W : Fin c2 → Fin co → EReal) (g b : Fin co → EReal)
    (i j : Fin n) (o : Fin co) : EReal :=
  leaky (norm cw (lin W (feat hc (X j) (X i))) g b o)

/-- One stage: the maximum over a point's twenty nearest points. -/
def stage [NeZero n] (hc : c2 = c + c) (cw : EReal) (X : Fin n → Fin c → EReal) (W : Fin c2 → Fin co → EReal)
    (g b : Fin co → EReal) (i : Fin n) (o : Fin co) : EReal :=
  (Finset.range 20).sup fun t => edge hc cw X W g b i (pick (ndist X i) t) o

/-- The maximum of real numbers over the neighbours is real. -/
theorem isReal_sup {m : Nat} (f : Nat → EReal) (hf : ∀ t, IsReal (f t)) : IsReal ((Finset.range (m + 1)).sup f) := by
  obtain ⟨t, -, e⟩ := Finset.exists_mem_eq_sup (Finset.range (m + 1)) ⟨0, by simp⟩ f
  rw [e]; exact hf t

theorem isReal_stage [NeZero n] (hc : c2 = c + c) {r : ℝ} (hr : 0 < r) (X : Fin n → Fin c → EReal) (W : Fin c2 → Fin co → EReal)
    {g b : Fin co → EReal} (hg : ∀ o, IsReal (g o)) (hb : ∀ o, IsReal (b o)) (i : Fin n) (o : Fin co) :
    IsReal (stage hc r X W g b i o) :=
  isReal_sup _ fun _ => isReal_leaky (isReal_norm hr _ hg hb o)

/-- A point's channels times a matrix. -/
def resid (A : Fin co → Fin c → EReal) (X : Fin n → Fin c → EReal) (i : Fin n) (o : Fin co) : EReal := ∑ k, X i k * A o k

theorem isReal_resid {A : Fin co → Fin c → EReal} {X : Fin n → Fin c → EReal} (hA : ∀ o k, IsReal (A o k))
    (hX : ∀ i k, IsReal (X i k)) (i : Fin n) (o : Fin co) : IsReal (resid A X i o) := .sum _ fun k => (hX i k).mul (hA o k)

end Cert.Spec

end
-- ==== Proof.Finite.lean ====
/-
  The precondition read: a comparison `|a| < ∞` true at every index says every entry of `a` is a real.
-/
module

public import proofs.«01_k».proof.Pre_finite
public import proofs.«01_k».proof.Proof.Spec
public import Idealize.ShloMosaic.Lib.Decide

@[expose] public section

noncomputable section

namespace Cert.Finite

open Idealize.ShloMosaic Cert.Pre_finite

/-- The shape relations the precondition's operations take. -/
instance facts : Cert.Pre_finite.Facts where
  bcast_S_S8x3x2048 := by decide
  bcast_S_S16 := by decide
  bcast_S_S32 := by decide
  bcast_S_S32x16 := by decide

/-- The word the precondition compares with is plus infinity. -/
theorem top_word : Ideal.ofBits .f32 0x7F800000#32 = (⊤ : EReal) := by
  simp [Ideal.ofBits, Ideal.ieee]

/-- An extended real whose absolute value is below plus infinity is a real. -/
theorem isReal_of_abs_lt {x : EReal} (h : max x (-x) < ⊤) : Spec.IsReal x := by
  induction x with
  | bot => simp at h
  | top => simp at h
  | coe r => exact ⟨r, rfl⟩

/-- Where `|a| < ∞` came out true everywhere, every entry of `a` is a real. -/
theorem isReal_of_olt {s : Shape} (hb : S_.BroadcastsInDim s (![] : Fin 0 → Fin s.rank)) (a : FVec Ideal s .f32)
    (h : cmpf .olt (Host.absf a) (broadcastInDim s ![] hb (constant S_ .f32 0x7F800000#32)) = fun _ => 1#1) (i : s.Idx) :
    Spec.IsReal (a i) := by
  have h1 : BitVec.ofBool (decide (max (a i) (-(a i)) < Ideal.ofBits .f32 0x7F800000#32)) = 1#1 := congrFun h i
  rw [top_word] at h1
  by_cases h2 : max (a i) (-(a i)) < ⊤
  · exact isReal_of_abs_lt h2
  · simp [h2] at h1

end Cert.Finite

end
-- ==== Proof.Frames.lean ====
/-
  The claims that speak of one program each: every run of each program ends, with its arguments as they were and every
  counter at zero; and the named constant of the kernel at the exact instance stands for what its table says.
-/
module

public import proofs.«01_k».proof.Defs
public import proofs.«01_k».proof.Proof.KernelRun
public import proofs.«01_k».proof.Proof.KernelIdealRun
public import proofs.«01_k».proof.Proof.Gen.ReferenceIdeal.Run
public import proofs.«01_k».proof.Proof.Finite

@[expose] public section

noncomputable section

namespace Cert.Frames

open Idealize.ShloMosaic Idealize.SL.Sem

/-- Every run of `Kernel` ends, its arguments unchanged and every counter at zero. -/
theorem kernel : Cert.quiescent_Kernel := fun m ρ _ =>
  (θ_run Cert.Kernel.defs _ _).mono (fun r h => ⟨fun c => ⟨Cert.Kernel.Run.end_arg m ρ r.2.mem c (h.1 c) Cert.Kernel.main_arg0 (by decide) (by decide),
    Cert.Kernel.Run.end_arg m ρ r.2.mem c (h.1 c) Cert.Kernel.main_arg1 (by decide) (by decide),
    Cert.Kernel.Run.end_arg m ρ r.2.mem c (h.1 c) Cert.Kernel.main_arg2 (by decide) (by decide),
    Cert.Kernel.Run.end_arg m ρ r.2.mem c (h.1 c) Cert.Kernel.main_arg3 (by decide) (by decide),
    Cert.Kernel.Run.end_arg m ρ r.2.mem c (h.1 c) Cert.Kernel.main_arg4 (by decide) (by decide),
    Cert.Kernel.Run.end_arg m ρ r.2.mem c (h.1 c) Cert.Kernel.main_arg5 (by decide) (by decide),
    Cert.Kernel.Run.end_arg m ρ r.2.mem c (h.1 c) Cert.Kernel.main_arg6 (by decide) (by decide),
    Cert.Kernel.Run.end_arg m ρ r.2.mem c (h.1 c) Cert.Kernel.main_arg7 (by decide) (by decide),
    Cert.Kernel.Run.end_arg m ρ r.2.mem c (h.1 c) Cert.Kernel.main_arg8 (by decide) (by decide),
    Cert.Kernel.Run.end_arg m ρ r.2.mem c (h.1 c) Cert.Kernel.main_arg9 (by decide) (by decide),
    Cert.Kernel.Run.end_arg m ρ r.2.mem c (h.1 c) Cert.Kernel.main_arg10 (by decide) (by decide),
    Cert.Kernel.Run.end_arg m ρ r.2.mem c (h.1 c) Cert.Kernel.main_arg11 (by decide) (by decide),
    Cert.Kernel.Run.end_arg m ρ r.2.mem c (h.1 c) Cert.Kernel.main_arg12 (by decide) (by decide),
    Cert.Kernel.Run.end_arg m ρ r.2.mem c (h.1 c) Cert.Kernel.main_arg13 (by decide) (by decide),
    Cert.Kernel.Run.end_arg m ρ r.2.mem c (h.1 c) Cert.Kernel.main_arg14 (by decide) (by decide)⟩, h.2⟩)
    (Cert.Kernel.Run.run m ρ)

/-- Every run of `KernelIdeal` ends, its arguments unchanged and every counter at zero. -/
theorem kernelIdeal : Cert.quiescent_KernelIdeal := fun m ρ _ =>
  (θ_run Cert.KernelIdeal.defs _ _).mono (fun r h => ⟨fun c => ⟨Cert.KernelIdeal.Run.end_arg m ρ r.2.mem c (h.1 c) Cert.KernelIdeal.main_arg0 (by decide) (by decide),
    Cert.KernelIdeal.Run.end_arg m ρ r.2.mem c (h.1 c) Cert.KernelIdeal.main_arg1 (by decide) (by decide),
    Cert.KernelIdeal.Run.end_arg m ρ r.2.mem c (h.1 c) Cert.KernelIdeal.main_arg2 (by decide) (by decide),
    Cert.KernelIdeal.Run.end_arg m ρ r.2.mem c (h.1 c) Cert.KernelIdeal.main_arg3 (by decide) (by decide),
    Cert.KernelIdeal.Run.end_arg m ρ r.2.mem c (h.1 c) Cert.KernelIdeal.main_arg4 (by decide) (by decide),
    Cert.KernelIdeal.Run.end_arg m ρ r.2.mem c (h.1 c) Cert.KernelIdeal.main_arg5 (by decide) (by decide),
    Cert.KernelIdeal.Run.end_arg m ρ r.2.mem c (h.1 c) Cert.KernelIdeal.main_arg6 (by decide) (by decide),
    Cert.KernelIdeal.Run.end_arg m ρ r.2.mem c (h.1 c) Cert.KernelIdeal.main_arg7 (by decide) (by decide),
    Cert.KernelIdeal.Run.end_arg m ρ r.2.mem c (h.1 c) Cert.KernelIdeal.main_arg8 (by decide) (by decide),
    Cert.KernelIdeal.Run.end_arg m ρ r.2.mem c (h.1 c) Cert.KernelIdeal.main_arg9 (by decide) (by decide),
    Cert.KernelIdeal.Run.end_arg m ρ r.2.mem c (h.1 c) Cert.KernelIdeal.main_arg10 (by decide) (by decide),
    Cert.KernelIdeal.Run.end_arg m ρ r.2.mem c (h.1 c) Cert.KernelIdeal.main_arg11 (by decide) (by decide),
    Cert.KernelIdeal.Run.end_arg m ρ r.2.mem c (h.1 c) Cert.KernelIdeal.main_arg12 (by decide) (by decide),
    Cert.KernelIdeal.Run.end_arg m ρ r.2.mem c (h.1 c) Cert.KernelIdeal.main_arg13 (by decide) (by decide),
    Cert.KernelIdeal.Run.end_arg m ρ r.2.mem c (h.1 c) Cert.KernelIdeal.main_arg14 (by decide) (by decide)⟩, h.2⟩)
    (Cert.KernelIdeal.Run.run m ρ)

/-- The same from the memories the precondition admits. -/
theorem kernelIdeal_finite : Cert.quiescent_KernelIdeal_pre_finite := fun m ρ _ => kernelIdeal m ρ trivial

/-- Every run of the reference ends, its arguments unchanged; it has no counter. -/
theorem referenceIdeal : Cert.quiescent_ReferenceIdeal := fun m ρ _ =>
  (θ_run Cert.ReferenceIdeal.defs _ _).mono (fun r h => ⟨fun c => (h c).2,
      sem_eq_zero_of_no_sems (by decide) r.2⟩)
    (Cert.ReferenceIdeal.Value.run (F := Ideal) m ρ)

/-- The same from the memories the precondition admits. -/
theorem referenceIdeal_finite : Cert.quiescent_ReferenceIdeal_pre_finite := fun m ρ _ => referenceIdeal m ρ trivial

/-- The table gives the name "masked" minus infinity, and the kernel's constant of that name is minus infinity. -/
theorem preserves : Cert.preserves_Kernel_KernelIdeal :=
  IdealRules.named_const.statement Cert.KernelIdeal.κ "masked" .f32 0xFF61B1E6#32 ⊥ rfl

end Cert.Frames

end
-- ==== Proof.KernelRead.lean ====
/-
  What a stage's operations leave at a row and a column, on the extended reals: the distances, the mark of the first
  greatest entry, the gathered point's edge features times the weights, the normalisation and the leaky step; and after
  the loop's twenty picks the stage of Spec.lean.
-/
module

public import Idealize.ShloMosaic.Lib.Pointwise
public import Idealize.ShloMosaic.Lib.MatmulPlain
public import Idealize.ShloMosaic.Lib.Pointwise.IndexBridge
public import Idealize.ShloMosaic.Lib.ValueLayout
public import Idealize.ShloMosaic.Lib.WordArith
public import Idealize.ShloMosaic.Lib.WordCmp
public import proofs.«01_k».proof.Proof.Edge
public import proofs.«01_k».proof.Proof.Spec

@[expose] public section

noncomputable section

namespace Cert.Edge

open Idealize.ShloMosaic Cert.Picks

variable {c c2 c3 co : Nat} (h : Sides c c2 c3 co)

/-- The points of a batch, by point and channel. -/
abbrev pts {n : Nat} (x : FVec Ideal (S3 1 n c) .f32) (i : Fin n) (k : Fin c) : EReal := x (ix3 0 i k)

theorem allOf_apply (xa : FVec Ideal (S3 1 2048 c) .f32) (m : Fin 2048) (k : Fin c) : allOf h xa (ix2 m k) = pts xa m k := by
  unfold allOf
  rw [ix2_eq_valueIdx, pts, ix3_eq_valueIdx]
  exact ValueIdx.shapeCast_1ab_ab_apply _ _ _ _

theorem blkOf_apply (xb : FVec Ideal (S3 1 512 c) .f32) (r : Fin 512) (k : Fin c) : blkOf h xb (ix2 r k) = pts xb r k := by
  unfold blkOf
  rw [ix2_eq_valueIdx, pts, ix3_eq_valueIdx]
  exact ValueIdx.shapeCast_1ab_ab_apply _ _ _ _

/-- A product with the transpose of its right side, accumulated from zero, at an index. -/
theorem times_transposed {M K N : Nat} {φ₁ φ₂ : FTy} (prec : Option ContractPrecision) (lhs : FVec Ideal (S2 M K) φ₁)
    (rhs : FVec Ideal (S2 N K) φ₂) (r : Fin M) (j : Fin N) :
    FloatOps.matmul (DotDims.transposedRhs M K N) prec lhs rhs (constant (S2 M N) .f32 0x00000000#32) (ix2 r j)
      = ∑ k : Fin K, lhs (ix2 r k) * rhs (ix2 j k) := by
  rw [ix2_eq_valueIdx, Ideal.matmul_transposedRhs_apply, ValueIdx.constant_apply, Ideal.ofBits_zero_f32, zero_add]
  exact Finset.sum_congr rfl fun k _ => by rw [ix2_eq_valueIdx, ix2_eq_valueIdx]

/-- A product accumulated from zero, at an index. -/
theorem times_plain {M K N : Nat} {φ₁ φ₂ : FTy} (prec : Option ContractPrecision) (lhs : FVec Ideal (S2 M K) φ₁)
    (rhs : FVec Ideal (S2 K N) φ₂) (r : Fin M) (j : Fin N) :
    FloatOps.matmul (DotDims.plain M K N) prec lhs rhs (constant (S2 M N) .f32 0x00000000#32) (ix2 r j)
      = ∑ k : Fin K, lhs (ix2 r k) * rhs (ix2 k j) := by
  rw [ix2_eq_valueIdx, Ideal.matmul_plain_apply, ValueIdx.constant_apply, Ideal.ofBits_zero_f32, zero_add]
  exact Finset.sum_congr rfl fun k _ => by rw [ix2_eq_valueIdx, ix2_eq_valueIdx]

/-- The distances at a row and a column. -/
theorem dist_apply (xa : FVec Ideal (S3 1 2048 c) .f32) (xb : FVec Ideal (S3 1 512 c) .f32) (r : Fin 512) (m : Fin 2048) :
    dist h xa xb (ix2 r m) = ((2 : ℝ) : EReal) * (∑ k, pts xb r k * pts xa m k) - (∑ k, pts xb r k * pts xb r k)
      - ∑ k, pts xa m k * pts xa m k := by
  have e : dist h xa xb (ix2 r m) = Ideal.ofBits .f32 0x40000000#32
      * FloatOps.matmul (F := Ideal) (DotDims.transposedRhs 512 c 2048) none (blkOf h xb) (allOf h xa)
        (constant (S2 512 2048) .f32 0x00000000#32) (ix2 r m)
      - (∑ k, blkOf h xb (ix2 r k) * blkOf h xb (ix2 r k)) - ∑ k, allOf h xa (ix2 m k) * allOf h xa (ix2 m k) := by
    pointwise [dist]
  rw [e, times_transposed, Spec.two_word]
  simp only [allOf_apply, blkOf_apply]

/-- Folding the maximum over a row from −∞ gives the entry at its first greatest place. -/
theorem fold_max_eq {n : Nat} [NeZero n] (d : Fin n → EReal) : Finset.univ.fold max ⊥ d = d (first d) :=
  le_antisymm ((Finset.fold_max_le _).mpr ⟨bot_le, fun j _ => le_first d j⟩)
    ((Finset.le_fold_max _).mpr (.inr ⟨first d, Finset.mem_univ _, le_rfl⟩))

/-- A fold of the signed minimum over words below 2³¹, read as a natural number. -/
theorem toNat_fold_minsi {ι : Type} (s : Finset ι) (f : ι → BitVec 32) (hf : ∀ x, (f x).toNat < 2 ^ 31) :
    (s.fold IntOp.minsi 2147483647#32 f).toNat = s.fold min 2147483647 (fun x => (f x).toNat)
      ∧ (s.fold IntOp.minsi 2147483647#32 f).toNat < 2 ^ 31 := by
  classical
  induction s using Finset.induction_on with
  | empty => exact ⟨rfl, by rw [Finset.fold_empty]; decide⟩
  | insert a s ha ih =>
    rw [Finset.fold_insert ha, Finset.fold_insert ha, WordArith.toNat_minsi_of_lt _ _ (hf a) ih.2, ih.1]
    exact ⟨rfl, lt_of_le_of_lt (min_le_left _ _) (hf a)⟩

/-- The least of the places that hold the greatest entry, as the operations find it. -/
theorem fold_first (d : Fin 2048 → EReal) :
    Finset.univ.fold IntOp.minsi 2147483647#32 (fun x : Fin 2048 => if d x = d (first d) then BitVec.ofNat 32 x.val else 2048#32)
      = BitVec.ofNat 32 (first d).val := by
  have hv : ∀ x : Fin 2048, (if d x = d (first d) then BitVec.ofNat 32 x.val else 2048#32).toNat
      = if d x = d (first d) then x.val else 2048 := by
    intro x
    have := x.isLt
    split
    · exact WordCmp.toNat_ofNat_of_lt (by omega)
    · rfl
  have hf : ∀ x : Fin 2048, (if d x = d (first d) then BitVec.ofNat 32 x.val else 2048#32).toNat < 2 ^ 31 := by
    intro x; have := x.isLt; rw [hv]; split <;> omega
  apply BitVec.eq_of_toNat_eq
  rw [(toNat_fold_minsi _ _ hf).1, WordCmp.toNat_ofNat_of_lt (by have := (first d).isLt; omega)]
  simp only [hv]
  refine le_antisymm ((Finset.fold_min_le _).mpr (.inr ⟨first d, Finset.mem_univ _, by rw [if_pos rfl]⟩))
    ((Finset.le_fold_min _).mpr ⟨by have := (first d).isLt; omega, fun x _ => ?_⟩)
  have := (first d).isLt
  split
  · rename_i e
    exact first_le d x e.ge
  · omega

/-- The column numbers. -/
abbrev cols : IVec (S2 512 2048) 32 := fun j => BitVec.ofNat 32 (j 1).val

/-- The mark stands at the row's first greatest entry. -/
theorem hit_apply (d : FVec Ideal (S2 512 2048) .f32) (r : Fin 512) (m : Fin 2048) :
    hit h cols d (ix2 r m) = if m = first (fun k => d (ix2 r k)) then 1#1 else 0#1 := by
  have e : hit h cols d (ix2 r m) = IntOp.cmpi .eq (BitVec.ofNat 32 m.val)
      (Finset.univ.fold IntOp.minsi (2147483647#32) (fun x : Fin 2048 =>
        if d (ix2 r x) = Finset.univ.fold max (Ideal.ofBits .f32 0xFF800000#32) (fun x => d (ix2 r x)) then
          BitVec.ofNat 32 x.val else 2048#32)) := by
    pointwise [hit, cols]
  rw [e, Spec.bot_word, fold_max_eq (fun k => d (ix2 r k)), fold_first (fun k => d (ix2 r k))]
  have h1 := m.isLt
  have h2 := (first fun k => d (ix2 r k)).isLt
  by_cases hm : m = first (fun k => d (ix2 r k))
  · rw [if_pos hm, ← hm]; simp [IntOp.cmpi]
  · rw [if_neg hm]
    have hne : ¬ BitVec.ofNat 32 m.val = BitVec.ofNat 32 (first fun k => d (ix2 r k)).val := fun e =>
      hm (Fin.ext ((WordCmp.ofNat_eq_ofNat_iff (by omega) (by omega)).mp e))
    rw [IntOp.cmpi, beq_eq_false_iff_ne.mpr hne]; rfl

/-- The distances with the place just picked masked by −∞. -/
theorem nextD_apply (d : FVec Ideal (S2 512 2048) .f32) (r : Fin 512) :
    (fun m => nextD h cols (⊥ : EReal) d (ix2 r m))
      = Function.update (fun m => d (ix2 r m)) (first fun k => d (ix2 r k)) ⊥ := by
  funext m
  have e : nextD h cols (⊥ : EReal) d (ix2 r m) = if hit h cols d (ix2 r m) = 1#1 then ⊥ else d (ix2 r m) := by
    pointwise [nextD]
    rfl
  rw [e, hit_apply]
  by_cases hm : m = first (fun k => d (ix2 r k))
  · rw [if_pos hm, if_pos rfl]; rw [hm, Function.update_self]
  · rw [if_neg hm, if_neg (by decide), Function.update_of_ne hm]

/-- The split of a row of real numbers: the row, then zeros. -/
theorem split3_apply (xa : FVec Ideal (S3 1 2048 c) .f32) (hx : ∀ m k, Spec.IsReal (pts xa m k)) (m : Fin 2048) (k : Fin c3) :
    split3 h xa (ix2 m k) = if hk : k.val < c then pts xa m ⟨k.val, hk⟩ else 0 := by
  have hz : ∀ i, allOf h xa i - allOf h xa i = 0 := fun i => by
    rw [eq_ix2 i]
    exact (congrArg₂ (· - ·) (allOf_apply h xa (i 0) (i 1)) (allOf_apply h xa (i 0) (i 1))).trans (hx _ _).sub_self
  rw [split3]
  by_cases h1 : k.val < c
  · rw [dif_pos h1, ← allOf_apply h]
    pointwise [h1]
    rw [Shape.Idx.norm2]
    rfl
  · rw [dif_neg h1]
    by_cases h2 : k.val - c < c
    · pointwise [h1, h2]
      exact hz _
    · pointwise [h1, h2]
      rw [hz, sub_zero]

/-- The marks of one place times the split points: the point at that place. -/
theorem gather_apply (xs : FVec Ideal (S2 2048 c3) .bf16)
    (p : IVec (S2 512 2048) 1) (r : Fin 512) (j : Fin 2048) (hp : ∀ m, p (ix2 r m) = if m = j then 1#1 else 0#1) (k : Fin c3) :
    FloatOps.matmul (F := Ideal) (DotDims.plain 512 2048 c3) none (truncf .bf16 (sitofp .f32 (extui 32 p h.lt1)) h.ltb) xs
      (constant (S2 512 c3) .f32 0x00000000#32) (ix2 r k) = xs (ix2 j k) := by
  have e1 : ∀ m, truncf (F := Ideal) .bf16 (sitofp .f32 (extui 32 p h.lt1)) h.ltb (ix2 r m) = if m = j then (1 : EReal) else 0 := by
    intro m
    have e0 : truncf (F := Ideal) .bf16 (sitofp .f32 (extui 32 p h.lt1)) h.ltb (ix2 r m)
      = (((((p (ix2 r m)).setWidth 32 : BitVec 32).toInt : ℝ)) : EReal) := by
      pointwise []
      rfl
    rw [e0, hp]
    by_cases hm : m = j
    · rw [if_pos hm, if_pos hm]; norm_num
    · rw [if_neg hm, if_neg hm]; norm_num
  rw [times_plain, Finset.sum_eq_single j]
  · rw [e1, if_pos rfl, one_mul]
  · intro m _ hm
    rw [e1, if_neg hm, zero_mul]
  · exact fun hj => absurd (Finset.mem_univ j) hj

/-- The edge features of the marked point times the weights. -/
theorem conv_apply (hc2 : c2 = c + c) (hc3 : c3 = c2 + c) (xa : FVec Ideal (S3 1 2048 c) .f32)
    (hx : ∀ m k, Spec.IsReal (pts xa m k)) (xb : FVec Ideal (S3 1 512 c) .f32) (w : FVec Ideal (S2 c2 co) .f32)
    (p : IVec (S2 512 2048) 1) (r : Fin 512) (j : Fin 2048) (hp : ∀ m, p (ix2 r m) = if m = j then 1#1 else 0#1) (o : Fin co) :
    conv h (blkOf h xb) w (split3 h xa) p (ix2 r o)
      = Spec.lin (fun k o => w (ix2 k o)) (Spec.feat hc2 (pts xa j) (pts xb r)) o := by
  have e : ∀ k, FloatOps.matmul (F := Ideal) (DotDims.plain 512 2048 c3) none (truncf .bf16 (sitofp .f32 (extui 32 p h.lt1)) h.ltb)
      (split3 h xa) (constant (S2 512 c3) .f32 0x00000000#32) (ix2 r k)
        = if hk : k.val < c then pts xa j ⟨k.val, hk⟩ else 0 := fun k => by
    rw [gather_apply h _ p r j hp, split3_apply h xa hx]
  unfold conv
  rw [matmul, times_plain]
  refine Finset.sum_congr rfl fun k _ => congrArg (· * _) ?_
  dsimp only [matmul]
  generalize FloatOps.matmul (F := Ideal) (DotDims.plain 512 2048 c3) _ _ _ _ = z at e ⊢
  have hk := k.isLt
  unfold Spec.feat
  by_cases h1 : k.val < c
  · rw [dif_pos h1, ← blkOf_apply h]
    have ez : ∀ (i : (S2 512 c3).Idx) (q : Nat) (hq : q < c3), (i 0).val = r.val → (i 1).val = q →
        z i = if hk : q < c then pts xa j ⟨q, hk⟩ else 0 := fun i q hq h0 h1 => by
      rw [eq_ix2 i, show (i 0 : Fin 512) = r from Fin.ext h0, show (i 1 : Fin c3) = ⟨q, hq⟩ from Fin.ext h1]
      exact e _
    pointwise [h1]
    rw [ez _ k.val (by omega) (Nat.zero_add _) (Nat.zero_add _), ez _ (c + k.val) (by omega) (Nat.zero_add _) rfl,
      ez _ (c2 + k.val) (by omega) (Nat.zero_add _) rfl, dif_pos h1, dif_neg (by omega), dif_neg (by omega), add_zero, add_zero]
    refine congrArg (_ - blkOf h xb ·) ?_
    rw [Shape.Idx.norm2]
    rfl
  · rw [dif_neg h1, ← blkOf_apply h]
    pointwise [h1]
    rw [Shape.Idx.norm2]
    rfl

/-- Normalisation and the leaky step at a row. -/
theorem norm_leaky_apply (cw : BitVec 32) (g b : FVec Ideal (S2 1 co) .f32) (y : FVec Ideal (S2 512 co) .f32) (r : Fin 512)
    (o : Fin co) : leaky (norm h cw g b y) (ix2 r o)
      = Spec.leaky (Spec.norm (Ideal.ofBits .f32 cw) (fun o => y (ix2 r o)) (fun o => g (ix2 0 o)) (fun o => b (ix2 0 o)) o) := by
  have e : ∀ z : FVec Ideal (S2 512 co) .f32, leaky z (ix2 r o) = Spec.leaky (z (ix2 r o)) := by
    intro z
    unfold Spec.leaky Spec.slope
    pointwise [leaky]

  rw [e]
  refine congrArg Spec.leaky ?_
  unfold Spec.norm Spec.var Spec.mean Spec.eps
  pointwise [norm]
  refine congrArg₂ (· + ·) (congrArg (_ * g ·) ?_) (congrArg b ?_)
  all_goals
    refine (Shape.Idx.norm2 _).trans ((ix2_inj _ _ _ _).mpr ⟨Subsingleton.elim _ _, ?_⟩)
    split
    · rename_i h1
      have h2 : co = 1 := h1
      subst h2
      exact Subsingleton.elim _ _
    · rfl

/-- The distances after one pick. -/
theorem step_fst {F : FTy → Type} [FloatOps F] (cw : BitVec 32) (m : F .f32) (v27 : IVec (S2 512 2048) 32)
    (xb : FVec F (S2 512 c) .f32) (w : FVec F (S2 c2 co) .f32) (xs : FVec F (S2 2048 c3) .bf16) (g b : FVec F (S2 1 co) .f32)
    (s : FVec F (S2 512 2048) .f32 × FVec F (S2 512 co) .f32) : (step h cw m v27 xb w xs g b s).1 = nextD h v27 m s.1 := by
  simp only [step]

/-- The running maximum after one pick. -/
theorem step_snd {F : FTy → Type} [FloatOps F] (cw : BitVec 32) (m : F .f32) (v27 : IVec (S2 512 2048) 32)
    (xb : FVec F (S2 512 c) .f32) (w : FVec F (S2 c2 co) .f32) (xs : FVec F (S2 2048 c3) .bf16) (g b : FVec F (S2 1 co) .f32)
    (s : FVec F (S2 512 2048) .f32 × FVec F (S2 512 co) .f32) : (step h cw m v27 xb w xs g b s).2
      = maximumf s.2 (leaky (norm h cw g b (conv h xb w xs (hit h v27 s.1)))) := by
  simp only [step]

/-- One pick at a row: the distances' row masked at its first greatest place, and the maximum with that point's edge. -/
theorem step_apply (hc2 : c2 = c + c) (hc3 : c3 = c2 + c) (cw : BitVec 32) (xa : FVec Ideal (S3 1 2048 c) .f32)
    (hx : ∀ m k, Spec.IsReal (pts xa m k)) (xb : FVec Ideal (S3 1 512 c) .f32) (w : FVec Ideal (S2 c2 co) .f32)
    (g b : FVec Ideal (S2 1 co) .f32) (n : Fin 2048) (r : Fin 512) (hn : ∀ k, pts xb r k = pts xa n k)
    (s : FVec Ideal (S2 512 2048) .f32 × FVec Ideal (S2 512 co) .f32) :
    (fun m => (step h cw (⊥ : EReal) cols (blkOf h xb) w (split3 h xa) g b s).1 (ix2 r m))
        = Function.update (fun m => s.1 (ix2 r m)) (first fun k => s.1 (ix2 r k)) ⊥
      ∧ ∀ o, (step h cw (⊥ : EReal) cols (blkOf h xb) w (split3 h xa) g b s).2 (ix2 r o)
        = max (s.2 (ix2 r o)) (Spec.edge hc2 (Ideal.ofBits .f32 cw) (pts xa) (fun k o => w (ix2 k o)) (fun o => g (ix2 0 o))
            (fun o => b (ix2 0 o)) n (first fun k => s.1 (ix2 r k)) o) := by
  rw [step_fst, step_snd]
  refine ⟨nextD_apply h s.1 r, fun o => ?_⟩
  refine congrArg (max (s.2 (ix2 r o))) ?_
  rw [norm_leaky_apply, Spec.edge]
  simp only [conv_apply h hc2 hc3 xa hx xb w _ r _ (hit_apply h s.1 r)]
  rw [show pts xb r = pts xa n from funext hn]

/-- After `i` picks a row of the distances is the row of the point's distances after `i` rounds, and the running maximum
    is over the points picked. -/
theorem steps_apply (hc2 : c2 = c + c) (hc3 : c3 = c2 + c) (cw : BitVec 32) (xa : FVec Ideal (S3 1 2048 c) .f32)
    (hx : ∀ m k, Spec.IsReal (pts xa m k)) (xb : FVec Ideal (S3 1 512 c) .f32) (w : FVec Ideal (S2 c2 co) .f32)
    (g b : FVec Ideal (S2 1 co) .f32) (n : Fin 2048) (r : Fin 512) (hn : ∀ k, pts xb r k = pts xa n k) (i : Nat) :
    (fun m => ((step h cw (⊥ : EReal) cols (blkOf h xb) w (split3 h xa) g b)^[i] (dist h xa xb, fun _ => (⊥ : EReal))).1
        (ix2 r m)) = left (Spec.ndist (pts xa) n) i
      ∧ ∀ o, ((step h cw (⊥ : EReal) cols (blkOf h xb) w (split3 h xa) g b)^[i] (dist h xa xb, fun _ => (⊥ : EReal))).2 (ix2 r o)
        = (Finset.range i).sup fun t => Spec.edge hc2 (Ideal.ofBits .f32 cw) (pts xa) (fun k o => w (ix2 k o))
            (fun o => g (ix2 0 o)) (fun o => b (ix2 0 o)) n (pick (Spec.ndist (pts xa) n) t) o := by
  induction i with
  | zero =>
    refine ⟨funext fun m => ?_, fun o => rfl⟩
    refine (dist_apply h xa xb r m).trans ?_
    simp only [hn]
    rfl
  | succ i ih =>
    rw [Function.iterate_succ_apply']
    obtain ⟨h1, h2⟩ := step_apply h hc2 hc3 cw xa hx xb w g b n r hn
      ((step h cw (⊥ : EReal) cols (blkOf h xb) w (split3 h xa) g b)^[i] (dist h xa xb, fun _ => (⊥ : EReal)))
    rw [ih.1] at h1 h2
    refine ⟨h1, fun o => ?_⟩
    rw [h2 o, ih.2 o, Finset.range_add_one, Finset.sup_insert, sup_comm]
    rfl

/-- The stage of a block, at a row and a channel, is the stage of the point in that row. -/
theorem stage_apply (hc2 : c2 = c + c) (hc3 : c3 = c2 + c) (cw : BitVec 32) (xa : FVec Ideal (S3 1 2048 c) .f32)
    (hx : ∀ m k, Spec.IsReal (pts xa m k)) (xb : FVec Ideal (S3 1 512 c) .f32) (w : FVec Ideal (S2 c2 co) .f32)
    (g b : FVec Ideal (S2 1 co) .f32) (n : Fin 2048) (r : Fin 512) (hn : ∀ k, pts xb r k = pts xa n k) (o : Fin co) :
    stage h cw (⊥ : EReal) cols xa xb w g b (ix2 r o)
      = Spec.stage hc2 (Ideal.ofBits .f32 cw) (pts xa) (fun k o => w (ix2 k o)) (fun o => g (ix2 0 o))
          (fun o => b (ix2 0 o)) n o := by
  refine Eq.trans ?_ ((steps_apply h hc2 hc3 cw xa hx xb w g b n r hn 20).2 o)
  unfold stage picks
  rw [shapeCast_id, shapeCast_id, shapeCast_id]
  rfl

end Cert.Edge

end
-- ==== Proof.Net.lean ====
/-
  The four stages on one batch, as functions of the batch's points and of the arguments' entries, and that they are real
  where those are.
-/
module

public import proofs.«01_k».proof.Proof.Spec

@[expose] public section

noncomputable section

namespace Cert.Spec

open Idealize.ShloMosaic

/-- The weights of the four stages: each stage's matrix, scale and shift, and the two matrices added around a stage. -/
structure Params where
  w1 : Fin 6 → Fin 16 → EReal
  g1 : Fin 16 → EReal
  b1 : Fin 16 → EReal
  w2 : Fin 32 → Fin 16 → EReal
  g2 : Fin 16 → EReal
  b2 : Fin 16 → EReal
  w3 : Fin 32 → Fin 32 → EReal
  g3 : Fin 32 → EReal
  b3 : Fin 32 → EReal
  w4 : Fin 64 → Fin 64 → EReal
  g4 : Fin 64 → EReal
  b4 : Fin 64 → EReal
  a1 : Fin 32 → Fin 16 → EReal
  a2 : Fin 64 → Fin 32 → EReal

/-- The scales and shifts of the first three stages, and the third stage's linear map, are real numbers. -/
structure Params.Real (p : Params) : Prop where
  g1 : ∀ o, IsReal (p.g1 o)
  b1 : ∀ o, IsReal (p.b1 o)
  g2 : ∀ o, IsReal (p.g2 o)
  b2 : ∀ o, IsReal (p.b2 o)
  g3 : ∀ o, IsReal (p.g3 o)
  b3 : ∀ o, IsReal (p.b3 o)
  a1 : ∀ o k, IsReal (p.a1 o k)

/-- The word of 16. -/
theorem word16 : Ideal.ofBits .f32 0x41800000#32 = ((16 : ℝ) : EReal) := by
  simp [Ideal.ofBits, Ideal.ieee]
  rw [← EReal.coe_mul]; norm_num

/-- The word of 32. -/
theorem word32 : Ideal.ofBits .f32 0x42000000#32 = ((32 : ℝ) : EReal) := by
  simp [Ideal.ofBits, Ideal.ieee]
  rw [← EReal.coe_mul]; norm_num

/-- The word of 64. -/
theorem word64 : Ideal.ofBits .f32 0x42800000#32 = ((64 : ℝ) : EReal) := by
  simp [Ideal.ofBits, Ideal.ieee]
  rw [← EReal.coe_mul]; norm_num

variable (p : Params) (X : Fin 2048 → Fin 3 → EReal)

/-- The first stage. -/
def x1 (n : Fin 2048) (o : Fin 16) : EReal :=
  stage (rfl : 6 = 3 + 3) (Ideal.ofBits .f32 0x41800000#32) X p.w1 p.g1 p.b1 n o

/-- The second stage, its points added. -/
def x2 (n : Fin 2048) (o : Fin 16) : EReal :=
  stage (rfl : 32 = 16 + 16) (Ideal.ofBits .f32 0x41800000#32) (x1 p X) p.w2 p.g2 p.b2 n o + x1 p X n o

/-- The third stage, a linear map of its points added. -/
def x3 (n : Fin 2048) (o : Fin 32) : EReal :=
  stage (rfl : 32 = 16 + 16) (Ideal.ofBits .f32 0x42000000#32) (x2 p X) p.w3 p.g3 p.b3 n o + resid p.a1 (x2 p X) n o

/-- The fourth stage, a linear map of its points added. -/
def x4 (n : Fin 2048) (o : Fin 64) : EReal :=
  stage (rfl : 64 = 32 + 32) (Ideal.ofBits .f32 0x42800000#32) (x3 p X) p.w4 p.g4 p.b4 n o + resid p.a2 (x3 p X) n o

/-- Four arrays of points, their channels one after another. -/
def join (u1 u2 : Fin 2048 → Fin 16 → EReal) (u3 : Fin 2048 → Fin 32 → EReal) (u4 : Fin 2048 → Fin 64 → EReal) (n : Fin 2048)
    (o : Fin 128) : EReal :=
  if h1 : o.val < 16 then u1 n ⟨o.val, h1⟩
  else if h2 : o.val - 16 < 16 then u2 n ⟨o.val - 16, h2⟩
  else if h3 : o.val - 16 - 16 < 32 then u3 n ⟨o.val - 16 - 16, h3⟩
  else u4 n ⟨o.val - 16 - 16 - 32, by omega⟩

/-- The channels of the four stages, one after another. -/
def out (n : Fin 2048) (o : Fin 128) : EReal := join (x1 p X) (x2 p X) (x3 p X) (x4 p X) n o

variable {p} {X}

theorem isReal_x1 (hp : p.Real) (n : Fin 2048) (o : Fin 16) : IsReal (x1 p X n o) := by
  unfold x1
  rw [word16]
  exact isReal_stage rfl (by norm_num) _ _ hp.g1 hp.b1 n o

theorem isReal_x2 (hp : p.Real) (n : Fin 2048) (o : Fin 16) : IsReal (x2 p X n o) := by
  unfold x2
  rw [word16]
  exact (isReal_stage rfl (by norm_num) _ _ hp.g2 hp.b2 n o).add (isReal_x1 hp n o)

theorem isReal_x3 (hp : p.Real) (n : Fin 2048) (o : Fin 32) : IsReal (x3 p X n o) := by
  unfold x3
  rw [word32]
  exact (isReal_stage rfl (by norm_num) _ _ hp.g3 hp.b3 n o).add (isReal_resid hp.a1 (isReal_x2 hp) n o)

end Cert.Spec

end
-- ==== Proof.KernelOut.lean ====
/-
  What each of the kernels leaves in its output array, from the entries of its input arrays.
-/
module

public import proofs.«01_k».proof.Proof.KernelIdealRun
public import proofs.«01_k».proof.Proof.KernelRead
public import proofs.«01_k».proof.Proof.Net

@[expose] public section

set_option maxRecDepth 16384

noncomputable section

namespace Cert.KernelIdeal.Run

open Cert.KernelIdeal Cert.KernelIdeal.Gen
open Idealize.ShloMosaic Idealize.ShloMosaic.TcCoe
open Idealize.ShloMosaic.Pipeline (Dat Cfg Window cellOf)

/-- The masking value on the extended reals. -/
theorem mask_eq : (mask : Ideal .f32) = (⊥ : EReal) := rfl

/-- The lanes' numbers. -/
theorem lanes_eq : lanes = Edge.cols := by
  funext j
  refine congrArg (BitVec.ofNat 32) ?_
  show 0 * 2048 + (j 1).val = (j 1).val
  omega

/-- Every index of three axes is one of three coordinates. -/
theorem ix3_surj {a b c : Nat} (y : Shape.Idx ⟨3, ![a, b, c]⟩) : ∃ z r o, y = ix3 z r o := by
  refine ⟨y 0, y 1, y 2, funext fun k => ?_⟩
  match k with
  | ⟨0, _⟩ => rfl
  | ⟨1, _⟩ => rfl
  | ⟨2, _⟩ => rfl

/-- A stage at a row and a channel, its operands given by their entries. -/
theorem stage_at {c c2 c3 co : Nat} (h : Edge.Sides c c2 c3 co) (hc2 : c2 = c + c) (hc3 : c3 = c2 + c) (cw : BitVec 32)
    (xa : FVec Ideal (Edge.S3 1 2048 c) .f32) (xb : FVec Ideal (Edge.S3 1 512 c) .f32) (w : FVec Ideal (Edge.S2 c2 co) .f32)
    (g b : FVec Ideal (Edge.S2 1 co) .f32) {X : Fin 2048 → Fin c → EReal} {W : Fin c2 → Fin co → EReal} {G B : Fin co → EReal}
    (n : Fin 2048) (r : Fin 512) (ea : ∀ m k, xa (ix3 0 m k) = X m k) (eb : ∀ k, xb (ix3 0 r k) = X n k)
    (ew : ∀ k o, w (ix2 k o) = W k o) (eg : ∀ o, g (ix2 0 o) = G o) (es : ∀ o, b (ix2 0 o) = B o)
    (hX : ∀ m k, Spec.IsReal (X m k)) (o : Fin co) :
    Edge.stage h cw mask lanes xa xb w g b (ix2 r o) = Spec.stage hc2 (Ideal.ofBits .f32 cw) X W G B n o := by
  obtain rfl : (fun m k => xa (ix3 0 m k)) = X := funext fun m => funext fun k => ea m k
  obtain rfl : (fun k o => w (ix2 k o)) = W := funext fun k => funext fun o => ew k o
  obtain rfl : (fun o => g (ix2 0 o)) = G := funext eg
  obtain rfl : (fun o => b (ix2 0 o)) = B := funext es
  rw [mask_eq, lanes_eq]
  exact Edge.stage_apply h hc2 hc3 cw xa hX xb w g b n r eb o

/-- What the body of kernel 0 leaves at a row and a channel. -/
theorem out0_apply (x0 : Vec Ideal S1x2048x3 .f32) (x1 : Vec Ideal S1x512x3 .f32) (x2 : Vec Ideal S6x16 .f32)
    (x3 : Vec Ideal S1x16 .f32) (x4 : Vec Ideal S1x16 .f32) (z : Fin 1) (r : Fin 512) (o : Fin 16) :
    out0 x0 x1 x2 x3 x4 (ix3 z r o) = (Edge.stage sides0 0x41800000#32 mask lanes x0 x1 x2 x3 x4 : FVec Ideal S512x16 .f32) (ix2 r o) := by
  have l0 : View.ld x0 r0_0 = x0 := View.ld_unit_lit _ x0 (by decide)
  have l1 : View.ld x1 r0_1 = x1 := View.ld_unit_lit _ x1 (by decide)
  have l2 : View.ld x2 r0_2 = x2 := View.ld_unit_lit _ x2 (by decide)
  have l3 : View.ld x3 r0_3 = x3 := View.ld_unit_lit _ x3 (by decide)
  have l4 : View.ld x4 r0_4 = x4 := View.ld_unit_lit _ x4 (by decide)
  unfold out0
  rw [View.canon_cons_unit_lit (h := by decide), l0, l1, l2, l3, l4]
  unfold k0_pay1
  pointwise

/-- A block added to the stage, at a row and a channel. -/
theorem pay1_apply (s : FVec Ideal S512x16 .f32) (x : Vec Ideal S1x512x16 .f32) (z : Fin 1) (r : Fin 512) (o : Fin 16) :
    k1_pay2 (k1_pay1 s) x (ix3 z r o) = s (ix2 r o) + x (ix3 0 r o) := by
  unfold k1_pay2 k1_pay1
  pointwise

/-- What the body of kernel 1 leaves at a row and a channel. -/
theorem out1_apply (x0 : Vec Ideal S1x2048x16 .f32) (x1 : Vec Ideal S1x512x16 .f32) (x2 : Vec Ideal S32x16 .f32)
    (x3 : Vec Ideal S1x16 .f32) (x4 : Vec Ideal S1x16 .f32) (z : Fin 1) (r : Fin 512) (o : Fin 16) :
    out1 x0 x1 x2 x3 x4 (ix3 z r o)
      = (Edge.stage sides1 0x41800000#32 mask lanes x0 x1 x2 x3 x4 : FVec Ideal S512x16 .f32) (ix2 r o) + x1 (ix3 0 r o) := by
  have l0 : View.ld x0 r1_0 = x0 := View.ld_unit_lit _ x0 (by decide)
  have l1 : View.ld x1 r1_1 = x1 := View.ld_unit_lit _ x1 (by decide)
  have l2 : View.ld x2 r1_2 = x2 := View.ld_unit_lit _ x2 (by decide)
  have l3 : View.ld x3 r1_3 = x3 := View.ld_unit_lit _ x3 (by decide)
  have l4 : View.ld x4 r1_4 = x4 := View.ld_unit_lit _ x4 (by decide)
  unfold out1
  rw [View.canon_cons_unit_lit (h := by decide), l0, l1, l2, l3, l4]
  exact pay1_apply _ x1 z r o

/-- A block's product with a matrix added to the stage, at a row and a channel. -/
theorem pay2_apply (s : FVec Ideal S512x32 .f32) (x : Vec Ideal S1x512x16 .f32) (a : Vec Ideal S16x32 .f32) (z : Fin 1)
    (r : Fin 512) (o : Fin 32) :
    k2_pay1 (k2_pay53 x) s a (ix3 z r o) = s (ix2 r o) + ∑ k : Fin 16, x (ix3 0 r k) * a (ix2 k o) := by
  unfold k2_pay1 k2_pay53
  rw [shapeCast_id]
  pointwise

/-- What the body of kernel 2 leaves at a row and a channel. -/
theorem out2_apply (x0 : Vec Ideal S1x2048x16 .f32) (x1 : Vec Ideal S1x512x16 .f32) (x2 : Vec Ideal S32x32 .f32)
    (x3 : Vec Ideal S1x32 .f32) (x4 : Vec Ideal S1x32 .f32) (x5 : Vec Ideal S16x32 .f32) (z : Fin 1) (r : Fin 512)
    (o : Fin 32) :
    out2 x0 x1 x2 x3 x4 x5 (ix3 z r o)
      = (Edge.stage sides2 0x42000000#32 mask lanes x0 x1 x2 x3 x4 : FVec Ideal S512x32 .f32) (ix2 r o)
        + ∑ k : Fin 16, x1 (ix3 0 r k) * x5 (ix2 k o) := by
  have l0 : View.ld x0 r2_0 = x0 := View.ld_unit_lit _ x0 (by decide)
  have l1 : View.ld x1 r2_1 = x1 := View.ld_unit_lit _ x1 (by decide)
  have l2 : View.ld x2 r2_2 = x2 := View.ld_unit_lit _ x2 (by decide)
  have l3 : View.ld x3 r2_3 = x3 := View.ld_unit_lit _ x3 (by decide)
  have l4 : View.ld x4 r2_4 = x4 := View.ld_unit_lit _ x4 (by decide)
  have l5 : View.ld x5 r2_5 = x5 := View.ld_unit_lit _ x5 (by decide)
  unfold out2
  rw [View.canon_cons_unit_lit (h := by decide), l0, l1, l2, l3, l4, l5]
  exact pay2_apply _ x1 x5 z r o

/-- A block's product with a matrix added to the stage, at a row and a channel. -/
theorem pay3_apply (s : FVec Ideal S512x64 .f32) (x : Vec Ideal S1x512x32 .f32) (a : Vec Ideal S32x64 .f32) (z : Fin 1)
    (r : Fin 512) (o : Fin 64) :
    k3_pay1 (k3_pay53 x) s a (ix3 z r o) = s (ix2 r o) + ∑ k : Fin 32, x (ix3 0 r k) * a (ix2 k o) := by
  unfold k3_pay1 k3_pay53
  rw [shapeCast_id]
  pointwise

/-- What the body of kernel 3 leaves at a row and a channel. -/
theorem out3_apply (x0 : Vec Ideal S1x2048x32 .f32) (x1 : Vec Ideal S1x512x32 .f32) (x2 : Vec Ideal S64x64 .f32)
    (x3 : Vec Ideal S1x64 .f32) (x4 : Vec Ideal S1x64 .f32) (x5 : Vec Ideal S32x64 .f32) (z : Fin 1) (r : Fin 512)
    (o : Fin 64) :
    out3 x0 x1 x2 x3 x4 x5 (ix3 z r o)
      = (Edge.stage sides3 0x42800000#32 mask lanes x0 x1 x2 x3 x4 : FVec Ideal S512x64 .f32) (ix2 r o)
        + ∑ k : Fin 32, x1 (ix3 0 r k) * x5 (ix2 k o) := by
  have l0 : View.ld x0 r3_0 = x0 := View.ld_unit_lit _ x0 (by decide)
  have l1 : View.ld x1 r3_1 = x1 := View.ld_unit_lit _ x1 (by decide)
  have l2 : View.ld x2 r3_2 = x2 := View.ld_unit_lit _ x2 (by decide)
  have l3 : View.ld x3 r3_3 = x3 := View.ld_unit_lit _ x3 (by decide)
  have l4 : View.ld x4 r3_4 = x4 := View.ld_unit_lit _ x4 (by decide)
  have l5 : View.ld x5 r3_5 = x5 := View.ld_unit_lit _ x5 (by decide)
  unfold out3
  rw [View.canon_cons_unit_lit (h := by decide), l0, l1, l2, l3, l4, l5]
  exact pay3_apply _ x1 x5 z r o

end Cert.KernelIdeal.Run

end
-- ==== Proof.KernelArr.lean ====
/-
  The output array of each kernel, from the entries of its input arrays: the stage of the points, and what is added to it.
-/
module

public import proofs.«01_k».proof.Proof.KernelOut

@[expose] public section

set_option maxRecDepth 16384

noncomputable section

namespace Cert.KernelIdeal.Run

open Cert.KernelIdeal Cert.KernelIdeal.Gen
open Idealize.ShloMosaic Idealize.ShloMosaic.TcCoe
open Idealize.ShloMosaic.Pipeline (Dat Cfg Window cellOf)

variable (V : (c : Dev nD) → (b : Ref sig .tc) → Buf (Elt Ideal) ((c : Thread nD τ).loc b)) (c : Dev nD)

/-- The output array of kernel 0, from its inputs' arrays: the stage. -/
theorem arr0 (x : Fin 8 → Fin 2048 → Fin 3 → EReal) (w : Fin 6 → Fin 16 → EReal) (g b : Fin 16 → EReal)
    (y : Fin 8 → Fin 2048 → Fin 16 → EReal)
    (ex : ∀ B m k, (V c main_call0_v0 : FVec Ideal S8x2048x3 .f32) (ix3 B m k) = x B m k)
    (ew : ∀ k o, (V c main_call0_v1 : FVec Ideal S6x16 .f32) (ix2 k o) = w k o)
    (eg : ∀ o, (V c main_call0_v2 : FVec Ideal S1x16 .f32) (ix2 0 o) = g o)
    (eb : ∀ o, (V c main_call0_v3 : FVec Ideal S1x16 .f32) (ix2 0 o) = b o)
    (hx : ∀ B m k, Spec.IsReal (x B m k))
    (hy : ∀ B n o, Spec.stage (rfl : 6 = 3 + 3) (Ideal.ofBits .f32 0x41800000#32) (x B) w g b n o = y B n o) :
    (dat0 V c).arrAt 5 cfg0.N = fun i : S8x2048x16.Idx => y (i 0) (i 1) (i 2) := by
  refine (dat0 V c).arrAt_eq_of_covers 5 _ (by decide +kernel) fun t hf j => ?_
  have i0 : ∀ t : Fin cfg0.N, win0_0.index t = ![(grid0.coords t 0).val, 0, 0] := (by decide +kernel : ∀ t : Fin grid0.N, _)
  have i1 : ∀ t : Fin cfg0.N, win0_1.index t = ![(grid0.coords t 0).val, (grid0.coords t 1).val, 0] :=
    (by decide +kernel : ∀ t : Fin grid0.N, _)
  have i2 : ∀ t : Fin cfg0.N, win0_2.index t = ![0, 0] := (by decide +kernel : ∀ t : Fin grid0.N, _)
  have i3 : ∀ t : Fin cfg0.N, win0_3.index t = ![0, 0] := (by decide +kernel : ∀ t : Fin grid0.N, _)
  have i4 : ∀ t : Fin cfg0.N, win0_4.index t = ![0, 0] := (by decide +kernel : ∀ t : Fin grid0.N, _)
  have i5 : ∀ t : Fin cfg0.N, win0_5.index t = ![(grid0.coords t 0).val, (grid0.coords t 1).val, 0] :=
    (by decide +kernel : ∀ t : Fin grid0.N, _)
  obtain ⟨z, r, o, rfl⟩ := ix3_surj (a := 1) (b := 512) (c := 16) j
  obtain ⟨B, hB⟩ : ∃ B : Fin 8, B.val = (grid0.coords t 0).val := ⟨grid0.coords t 0, rfl⟩
  obtain ⟨T, hT⟩ : ∃ T : Fin 4, T.val = (grid0.coords t 1).val := ⟨grid0.coords t 1, rfl⟩
  have e5 : (win0_5.blk t).view.emb (ix3 z r o) = ix3 B ⟨T.val * 512 + r.val, by omega⟩ o := by blk_ext [i5]
  have own : ∀ k, (iblk0 V c 1 t : Vec Ideal S1x512x3 .f32) (ix3 0 r k) = x B ⟨T.val * 512 + r.val, by omega⟩ k := by
    intro k
    blk_simp [iblk0]
    refine (congrArg (V c main_call0_v0) ?_).trans (ex B _ k)
    blk_ext [i1]
  have hout : (dat0 V c).after 5 t
      = out0 (iblk0 V c 0 t) (iblk0 V c 1 t) (iblk0 V c 2 t) (iblk0 V c 3 t) (iblk0 V c 4 t) := by
    dsimp only [dat0]
  blk_simp
  refine Eq.trans ?_ (congrArg (fun i : S8x2048x16.Idx => y (i 0) (i 1) (i 2)) e5).symm
  refine Eq.trans ?_ (hy B ⟨T.val * 512 + r.val, by omega⟩ o)
  refine (congrFun hout _).trans ?_
  refine (out0_apply (iblk0 V c 0 t) (iblk0 V c 1 t) (iblk0 V c 2 t) (iblk0 V c 3 t) (iblk0 V c 4 t) z r o).trans ?_
  refine stage_at sides0 rfl rfl _ _ _ _ _ _ _ r ?_ own ?_ ?_ ?_ (hx B) o
  · intro m k
    blk_simp [iblk0]
    refine (congrArg (V c main_call0_v0) ?_).trans (ex B m k)
    blk_ext [i0]
  · intro k o
    blk_simp [iblk0]
    refine (congrArg (V c main_call0_v1) ?_).trans (ew k o)
    blk_ext [i2]
  · intro o
    blk_simp [iblk0]
    refine (congrArg (V c main_call0_v2) ?_).trans (eg o)
    blk_ext [i3]
  · intro o
    blk_simp [iblk0]
    refine (congrArg (V c main_call0_v3) ?_).trans (eb o)
    blk_ext [i4]

/-- The output array of kernel 1, from its inputs' arrays: the stage, the points added. -/
theorem arr1 (x : Fin 8 → Fin 2048 → Fin 16 → EReal) (w : Fin 32 → Fin 16 → EReal) (g b : Fin 16 → EReal)
    (y : Fin 8 → Fin 2048 → Fin 16 → EReal)
    (ex : ∀ B m k, (V c main_call0_v4 : FVec Ideal S8x2048x16 .f32) (ix3 B m k) = x B m k)
    (ew : ∀ k o, (V c main_call0_v5 : FVec Ideal S32x16 .f32) (ix2 k o) = w k o)
    (eg : ∀ o, (V c main_call0_v6 : FVec Ideal S1x16 .f32) (ix2 0 o) = g o)
    (eb : ∀ o, (V c main_call0_v7 : FVec Ideal S1x16 .f32) (ix2 0 o) = b o)
    (hx : ∀ B m k, Spec.IsReal (x B m k))
    (hy : ∀ B n o, Spec.stage (rfl : 32 = 16 + 16) (Ideal.ofBits .f32 0x41800000#32) (x B) w g b n o + x B n o = y B n o) :
    (dat1 V c).arrAt 5 cfg1.N = fun i : S8x2048x16.Idx => y (i 0) (i 1) (i 2) := by
  refine (dat1 V c).arrAt_eq_of_covers 5 _ (by decide +kernel) fun t hf j => ?_
  have i0 : ∀ t : Fin cfg1.N, win1_0.index t = ![(grid1.coords t 0).val, 0, 0] := (by decide +kernel : ∀ t : Fin grid1.N, _)
  have i1 : ∀ t : Fin cfg1.N, win1_1.index t = ![(grid1.coords t 0).val, (grid1.coords t 1).val, 0] :=
    (by decide +kernel : ∀ t : Fin grid1.N, _)
  have i2 : ∀ t : Fin cfg1.N, win1_2.index t = ![0, 0] := (by decide +kernel : ∀ t : Fin grid1.N, _)
  have i3 : ∀ t : Fin cfg1.N, win1_3.index t = ![0, 0] := (by decide +kernel : ∀ t : Fin grid1.N, _)
  have i4 : ∀ t : Fin cfg1.N, win1_4.index t = ![0, 0] := (by decide +kernel : ∀ t : Fin grid1.N, _)
  have i5 : ∀ t : Fin cfg1.N, win1_5.index t = ![(grid1.coords t 0).val, (grid1.coords t 1).val, 0] :=
    (by decide +kernel : ∀ t : Fin grid1.N, _)
  obtain ⟨z, r, o, rfl⟩ := ix3_surj (a := 1) (b := 512) (c := 16) j
  obtain ⟨B, hB⟩ : ∃ B : Fin 8, B.val = (grid1.coords t 0).val := ⟨grid1.coords t 0, rfl⟩
  obtain ⟨T, hT⟩ : ∃ T : Fin 4, T.val = (grid1.coords t 1).val := ⟨grid1.coords t 1, rfl⟩
  have e5 : (win1_5.blk t).view.emb (ix3 z r o) = ix3 B ⟨T.val * 512 + r.val, by omega⟩ o := by blk_ext [i5]
  have own : ∀ k, (iblk1 V c 1 t : Vec Ideal S1x512x16 .f32) (ix3 0 r k) = x B ⟨T.val * 512 + r.val, by omega⟩ k := by
    intro k
    blk_simp [iblk1]
    refine (congrArg (V c main_call0_v4) ?_).trans (ex B _ k)
    blk_ext [i1]
  have hout : (dat1 V c).after 5 t
      = out1 (iblk1 V c 0 t) (iblk1 V c 1 t) (iblk1 V c 2 t) (iblk1 V c 3 t) (iblk1 V c 4 t) := by
    dsimp only [dat1]
  blk_simp
  refine Eq.trans ?_ (congrArg (fun i : S8x2048x16.Idx => y (i 0) (i 1) (i 2)) e5).symm
  refine Eq.trans ?_ (hy B ⟨T.val * 512 + r.val, by omega⟩ o)
  refine (congrFun hout _).trans ?_
  refine (out1_apply (iblk1 V c 0 t) (iblk1 V c 1 t) (iblk1 V c 2 t) (iblk1 V c 3 t) (iblk1 V c 4 t) z r o).trans ?_
  refine congrArg₂ (fun u v : EReal => u + v) ?_ (own o)
  refine stage_at sides1 rfl rfl _ _ _ _ _ _ _ r ?_ own ?_ ?_ ?_ (hx B) o
  · intro m k
    blk_simp [iblk1]
    refine (congrArg (V c main_call0_v4) ?_).trans (ex B m k)
    blk_ext [i0]
  · intro k o
    blk_simp [iblk1]
    refine (congrArg (V c main_call0_v5) ?_).trans (ew k o)
    blk_ext [i2]
  · intro o
    blk_simp [iblk1]
    refine (congrArg (V c main_call0_v6) ?_).trans (eg o)
    blk_ext [i3]
  · intro o
    blk_simp [iblk1]
    refine (congrArg (V c main_call0_v7) ?_).trans (eb o)
    blk_ext [i4]

set_option maxHeartbeats 1000000 in
/-- The output array of kernel 2, from its inputs' arrays: the stage, a linear map of the points added. -/
theorem arr2 (x : Fin 8 → Fin 2048 → Fin 16 → EReal) (w : Fin 32 → Fin 32 → EReal) (g b : Fin 32 → EReal)
    (a : Fin 32 → Fin 16 → EReal) (y : Fin 8 → Fin 2048 → Fin 32 → EReal)
    (ex : ∀ B m k, (V c main_call0_v8 : FVec Ideal S8x2048x16 .f32) (ix3 B m k) = x B m k)
    (ew : ∀ k o, (V c main_call0_v9 : FVec Ideal S32x32 .f32) (ix2 k o) = w k o)
    (eg : ∀ o, (V c main_call0_v10 : FVec Ideal S1x32 .f32) (ix2 0 o) = g o)
    (eb : ∀ o, (V c main_call0_v11 : FVec Ideal S1x32 .f32) (ix2 0 o) = b o)
    (ea : ∀ k o, (V c main_call0_v12 : FVec Ideal S16x32 .f32) (ix2 k o) = a o k)
    (hx : ∀ B m k, Spec.IsReal (x B m k))
    (hy : ∀ B n o, Spec.stage (rfl : 32 = 16 + 16) (Ideal.ofBits .f32 0x42000000#32) (x B) w g b n o + Spec.resid a (x B) n o = y B n o) :
    (dat2 V c).arrAt 6 cfg2.N = fun i : S8x2048x32.Idx => y (i 0) (i 1) (i 2) := by
  refine (dat2 V c).arrAt_eq_of_covers 6 _ (by decide +kernel) fun t hf j => ?_
  have i0 : ∀ t : Fin cfg2.N, win2_0.index t = ![(grid2.coords t 0).val, 0, 0] := (by decide +kernel : ∀ t : Fin grid2.N, _)
  have i1 : ∀ t : Fin cfg2.N, win2_1.index t = ![(grid2.coords t 0).val, (grid2.coords t 1).val, 0] :=
    (by decide +kernel : ∀ t : Fin grid2.N, _)
  have i2 : ∀ t : Fin cfg2.N, win2_2.index t = ![0, 0] := (by decide +kernel : ∀ t : Fin grid2.N, _)
  have i3 : ∀ t : Fin cfg2.N, win2_3.index t = ![0, 0] := (by decide +kernel : ∀ t : Fin grid2.N, _)
  have i4 : ∀ t : Fin cfg2.N, win2_4.index t = ![0, 0] := (by decide +kernel : ∀ t : Fin grid2.N, _)
  have i5 : ∀ t : Fin cfg2.N, win2_5.index t = ![0, 0] := (by decide +kernel : ∀ t : Fin grid2.N, _)
  have i6 : ∀ t : Fin cfg2.N, win2_6.index t = ![(grid2.coords t 0).val, (grid2.coords t 1).val, 0] :=
    (by decide +kernel : ∀ t : Fin grid2.N, _)
  obtain ⟨z, r, o, rfl⟩ := ix3_surj (a := 1) (b := 512) (c := 32) j
  obtain ⟨B, hB⟩ : ∃ B : Fin 8, B.val = (grid2.coords t 0).val := ⟨grid2.coords t 0, rfl⟩
  obtain ⟨T, hT⟩ : ∃ T : Fin 4, T.val = (grid2.coords t 1).val := ⟨grid2.coords t 1, rfl⟩
  have e6 : (win2_6.blk t).view.emb (ix3 z r o) = ix3 B ⟨T.val * 512 + r.val, by omega⟩ o := by blk_ext [i6]
  have own : ∀ k, (iblk2 V c 1 t : Vec Ideal S1x512x16 .f32) (ix3 0 r k) = x B ⟨T.val * 512 + r.val, by omega⟩ k := by
    intro k
    blk_simp [iblk2]
    refine (congrArg (V c main_call0_v8) ?_).trans (ex B _ k)
    blk_ext [i1]
  have hout : (dat2 V c).after 6 t
      = out2 (iblk2 V c 0 t) (iblk2 V c 1 t) (iblk2 V c 2 t) (iblk2 V c 3 t) (iblk2 V c 4 t) (iblk2 V c 5 t) := by
    dsimp only [dat2]
  blk_simp
  refine Eq.trans ?_ (congrArg (fun i : S8x2048x32.Idx => y (i 0) (i 1) (i 2)) e6).symm
  refine Eq.trans ?_ (hy B ⟨T.val * 512 + r.val, by omega⟩ o)
  refine (congrFun hout _).trans ?_
  refine (out2_apply (iblk2 V c 0 t) (iblk2 V c 1 t) (iblk2 V c 2 t) (iblk2 V c 3 t) (iblk2 V c 4 t) (iblk2 V c 5 t) z r o).trans ?_
  refine congrArg₂ (fun u v : EReal => u + v) ?_ (Finset.sum_congr rfl fun k _ => congrArg₂ (fun u v : EReal => u * v) (own k) ?_)
  case refine_2 =>
    blk_simp [iblk2]
    refine (congrArg (V c main_call0_v12) ?_).trans (ea k o)
    blk_ext [i5]
  refine stage_at sides2 rfl rfl _ _ _ _ _ _ _ r ?_ own ?_ ?_ ?_ (hx B) o
  · intro m k
    blk_simp [iblk2]
    refine (congrArg (V c main_call0_v8) ?_).trans (ex B m k)
    blk_ext [i0]
  · intro k o
    blk_simp [iblk2]
    refine (congrArg (V c main_call0_v9) ?_).trans (ew k o)
    blk_ext [i2]
  · intro o
    blk_simp [iblk2]
    refine (congrArg (V c main_call0_v10) ?_).trans (eg o)
    blk_ext [i3]
  · intro o
    blk_simp [iblk2]
    refine (congrArg (V c main_call0_v11) ?_).trans (eb o)
    blk_ext [i4]

set_option maxHeartbeats 1000000 in
/-- The output array of kernel 3, from its inputs' arrays: the stage, a linear map of the points added. -/
theorem arr3 (x : Fin 8 → Fin 2048 → Fin 32 → EReal) (w : Fin 64 → Fin 64 → EReal) (g b : Fin 64 → EReal)
    (a : Fin 64 → Fin 32 → EReal) (y : Fin 8 → Fin 2048 → Fin 64 → EReal)
    (ex : ∀ B m k, (V c main_call0_v13 : FVec Ideal S8x2048x32 .f32) (ix3 B m k) = x B m k)
    (ew : ∀ k o, (V c main_call0_v14 : FVec Ideal S64x64 .f32) (ix2 k o) = w k o)
    (eg : ∀ o, (V c main_call0_v15 : FVec Ideal S1x64 .f32) (ix2 0 o) = g o)
    (eb : ∀ o, (V c main_call0_v16 : FVec Ideal S1x64 .f32) (ix2 0 o) = b o)
    (ea : ∀ k o, (V c main_call0_v17 : FVec Ideal S32x64 .f32) (ix2 k o) = a o k)
    (hx : ∀ B m k, Spec.IsReal (x B m k))
    (hy : ∀ B n o, Spec.stage (rfl : 64 = 32 + 32) (Ideal.ofBits .f32 0x42800000#32) (x B) w g b n o + Spec.resid a (x B) n o = y B n o) :
    (dat3 V c).arrAt 6 cfg3.N = fun i : S8x2048x64.Idx => y (i 0) (i 1) (i 2) := by
  refine (dat3 V c).arrAt_eq_of_covers 6 _ (by decide +kernel) fun t hf j => ?_
  have i0 : ∀ t : Fin cfg3.N, win3_0.index t = ![(grid3.coords t 0).val, 0, 0] := (by decide +kernel : ∀ t : Fin grid3.N, _)
  have i1 : ∀ t : Fin cfg3.N, win3_1.index t = ![(grid3.coords t 0).val, (grid3.coords t 1).val, 0] :=
    (by decide +kernel : ∀ t : Fin grid3.N, _)
  have i2 : ∀ t : Fin cfg3.N, win3_2.index t = ![0, 0] := (by decide +kernel : ∀ t : Fin grid3.N, _)
  have i3 : ∀ t : Fin cfg3.N, win3_3.index t = ![0, 0] := (by decide +kernel : ∀ t : Fin grid3.N, _)
  have i4 : ∀ t : Fin cfg3.N, win3_4.index t = ![0, 0] := (by decide +kernel : ∀ t : Fin grid3.N, _)
  have i5 : ∀ t : Fin cfg3.N, win3_5.index t = ![0, 0] := (by decide +kernel : ∀ t : Fin grid3.N, _)
  have i6 : ∀ t : Fin cfg3.N, win3_6.index t = ![(grid3.coords t 0).val, (grid3.coords t 1).val, 0] :=
    (by decide +kernel : ∀ t : Fin grid3.N, _)
  obtain ⟨z, r, o, rfl⟩ := ix3_surj (a := 1) (b := 512) (c := 64) j
  obtain ⟨B, hB⟩ : ∃ B : Fin 8, B.val = (grid3.coords t 0).val := ⟨grid3.coords t 0, rfl⟩
  obtain ⟨T, hT⟩ : ∃ T : Fin 4, T.val = (grid3.coords t 1).val := ⟨grid3.coords t 1, rfl⟩
  have e6 : (win3_6.blk t).view.emb (ix3 z r o) = ix3 B ⟨T.val * 512 + r.val, by omega⟩ o := by blk_ext [i6]
  have own : ∀ k, (iblk3 V c 1 t : Vec Ideal S1x512x32 .f32) (ix3 0 r k) = x B ⟨T.val * 512 + r.val, by omega⟩ k := by
    intro k
    blk_simp [iblk3]
    refine (congrArg (V c main_call0_v13) ?_).trans (ex B _ k)
    blk_ext [i1]
  have hout : (dat3 V c).after 6 t
      = out3 (iblk3 V c 0 t) (iblk3 V c 1 t) (iblk3 V c 2 t) (iblk3 V c 3 t) (iblk3 V c 4 t) (iblk3 V c 5 t) := by
    dsimp only [dat3]
  blk_simp
  refine Eq.trans ?_ (congrArg (fun i : S8x2048x64.Idx => y (i 0) (i 1) (i 2)) e6).symm
  refine Eq.trans ?_ (hy B ⟨T.val * 512 + r.val, by omega⟩ o)
  refine (congrFun hout _).trans ?_
  refine (out3_apply (iblk3 V c 0 t) (iblk3 V c 1 t) (iblk3 V c 2 t) (iblk3 V c 3 t) (iblk3 V c 4 t) (iblk3 V c 5 t) z r o).trans ?_
  refine congrArg₂ (fun u v : EReal => u + v) ?_ (Finset.sum_congr rfl fun k _ => congrArg₂ (fun u v : EReal => u * v) (own k) ?_)
  case refine_2 =>
    blk_simp [iblk3]
    refine (congrArg (V c main_call0_v17) ?_).trans (ea k o)
    blk_ext [i5]
  refine stage_at sides3 rfl rfl _ _ _ _ _ _ _ r ?_ own ?_ ?_ ?_ (hx B) o
  · intro m k
    blk_simp [iblk3]
    refine (congrArg (V c main_call0_v13) ?_).trans (ex B m k)
    blk_ext [i0]
  · intro k o
    blk_simp [iblk3]
    refine (congrArg (V c main_call0_v14) ?_).trans (ew k o)
    blk_ext [i2]
  · intro o
    blk_simp [iblk3]
    refine (congrArg (V c main_call0_v15) ?_).trans (eg o)
    blk_ext [i3]
  · intro o
    blk_simp [iblk3]
    refine (congrArg (V c main_call0_v16) ?_).trans (eb o)
    blk_ext [i4]

end Cert.KernelIdeal.Run

end
-- ==== Proof.KernelValue.lean ====
/-
  The kernel's result, from the arguments: each kernel's output array is a stage of the network on the batch's points, and the
  result is the four stages' channels one after another.
-/
module

public import proofs.«01_k».proof.Proof.KernelArr
public import Idealize.ShloMosaic.Lib.StableHlo.ReadAt

@[expose] public section

set_option maxRecDepth 16384

noncomputable section

namespace Cert.Spec

open Idealize.ShloMosaic

/-- The weights in the arguments' arrays. -/
def paramsOf (a1 : FVec Ideal (Edge.S2 16 6) .f32) (a2 a3 : FVec Ideal ⟨1, ![16]⟩ .f32)
    (a4 : FVec Ideal (Edge.S2 16 32) .f32) (a5 a6 : FVec Ideal ⟨1, ![16]⟩ .f32)
    (a7 : FVec Ideal (Edge.S2 32 32) .f32) (a8 a9 : FVec Ideal ⟨1, ![32]⟩ .f32)
    (a10 : FVec Ideal (Edge.S2 64 64) .f32) (a11 a12 : FVec Ideal ⟨1, ![64]⟩ .f32)
    (a13 : FVec Ideal (Edge.S2 32 16) .f32) (a14 : FVec Ideal (Edge.S2 64 32) .f32) : Params where
  w1 k o := a1 (ix2 o k)
  g1 o := a2 (ix1 o)
  b1 o := a3 (ix1 o)
  w2 k o := a4 (ix2 o k)
  g2 o := a5 (ix1 o)
  b2 o := a6 (ix1 o)
  w3 k o := a7 (ix2 o k)
  g3 o := a8 (ix1 o)
  b3 o := a9 (ix1 o)
  w4 k o := a10 (ix2 o k)
  g4 o := a11 (ix1 o)
  b4 o := a12 (ix1 o)
  a1 o k := a13 (ix2 o k)
  a2 o k := a14 (ix2 o k)

/-- The points of a batch in the first argument's array. -/
def pointsOf (a0 : FVec Ideal (Edge.S3 8 3 2048) .f32) (b : Fin 8) (n : Fin 2048) (k : Fin 3) : EReal := a0 (ix3 b k n)

end Cert.Spec

namespace Cert.KernelIdeal.Run

open Cert.KernelIdeal Cert.KernelIdeal.Gen
open Idealize.ShloMosaic Idealize.ShloMosaic.TcCoe
open Idealize.ShloMosaic.Pipeline (Dat Cfg Window cellOf)

section Host

variable (W : Valuation τ sig (Elt Ideal))

/-- What stretch 0 writes: the points and the first stage's weights. -/
theorem host0 :
    (∀ B m k, (StableHlo.after hostOps0 W (Proc.devRef .tc main_call0_v0) : FVec Ideal S8x2048x3 .f32) (ix3 B m k)
      = (W (Proc.devRef .tc main_arg0) : FVec Ideal S8x3x2048 .f32) (ix3 B k m))
    ∧ (∀ k o, (StableHlo.after hostOps0 W (Proc.devRef .tc main_call0_v1) : FVec Ideal S6x16 .f32) (ix2 k o)
      = (W (Proc.devRef .tc main_arg1) : FVec Ideal S16x6 .f32) (ix2 o k))
    ∧ (∀ o, (StableHlo.after hostOps0 W (Proc.devRef .tc main_call0_v2) : FVec Ideal S1x16 .f32) (ix2 0 o)
      = (W (Proc.devRef .tc main_arg2) : FVec Ideal S16 .f32) (ix1 o))
    ∧ (∀ o, (StableHlo.after hostOps0 W (Proc.devRef .tc main_call0_v3) : FVec Ideal S1x16 .f32) (ix2 0 o)
      = (W (Proc.devRef .tc main_arg3) : FVec Ideal S16 .f32) (ix1 o)) := by
  refine ⟨?_, ?_, ?_, ?_⟩ <;> intros <;> after_reads_at

/-- What stretch 1 writes: the second stage's weights. -/
theorem host1 :
    (∀ k o, (StableHlo.after hostOps1 W (Proc.devRef .tc main_call0_v5) : FVec Ideal S32x16 .f32) (ix2 k o)
      = (W (Proc.devRef .tc main_arg4) : FVec Ideal S16x32 .f32) (ix2 o k))
    ∧ (∀ o, (StableHlo.after hostOps1 W (Proc.devRef .tc main_call0_v6) : FVec Ideal S1x16 .f32) (ix2 0 o)
      = (W (Proc.devRef .tc main_arg5) : FVec Ideal S16 .f32) (ix1 o))
    ∧ (∀ o, (StableHlo.after hostOps1 W (Proc.devRef .tc main_call0_v7) : FVec Ideal S1x16 .f32) (ix2 0 o)
      = (W (Proc.devRef .tc main_arg6) : FVec Ideal S16 .f32) (ix1 o)) := by
  refine ⟨?_, ?_, ?_⟩ <;> intros <;> after_reads_at

/-- What stretch 2 writes: the third stage's weights. -/
theorem host2 :
    (∀ k o, (StableHlo.after hostOps2 W (Proc.devRef .tc main_call0_v9) : FVec Ideal S32x32 .f32) (ix2 k o)
      = (W (Proc.devRef .tc main_arg7) : FVec Ideal S32x32 .f32) (ix2 o k))
    ∧ (∀ o, (StableHlo.after hostOps2 W (Proc.devRef .tc main_call0_v10) : FVec Ideal S1x32 .f32) (ix2 0 o)
      = (W (Proc.devRef .tc main_arg8) : FVec Ideal S32 .f32) (ix1 o))
    ∧ (∀ o, (StableHlo.after hostOps2 W (Proc.devRef .tc main_call0_v11) : FVec Ideal S1x32 .f32) (ix2 0 o)
      = (W (Proc.devRef .tc main_arg9) : FVec Ideal S32 .f32) (ix1 o))
    ∧ (∀ k o, (StableHlo.after hostOps2 W (Proc.devRef .tc main_call0_v12) : FVec Ideal S16x32 .f32) (ix2 k o)
      = (W (Proc.devRef .tc main_arg13) : FVec Ideal S32x16 .f32) (ix2 o k)) := by
  refine ⟨?_, ?_, ?_, ?_⟩ <;> intros <;> after_reads_at

/-- What stretch 3 writes: the fourth stage's weights. -/
theorem host3 :
    (∀ k o, (StableHlo.after hostOps3 W (Proc.devRef .tc main_call0_v14) : FVec Ideal S64x64 .f32) (ix2 k o)
      = (W (Proc.devRef .tc main_arg10) : FVec Ideal S64x64 .f32) (ix2 o k))
    ∧ (∀ o, (StableHlo.after hostOps3 W (Proc.devRef .tc main_call0_v15) : FVec Ideal S1x64 .f32) (ix2 0 o)
      = (W (Proc.devRef .tc main_arg11) : FVec Ideal S64 .f32) (ix1 o))
    ∧ (∀ o, (StableHlo.after hostOps3 W (Proc.devRef .tc main_call0_v16) : FVec Ideal S1x64 .f32) (ix2 0 o)
      = (W (Proc.devRef .tc main_arg12) : FVec Ideal S64 .f32) (ix1 o))
    ∧ (∀ k o, (StableHlo.after hostOps3 W (Proc.devRef .tc main_call0_v17) : FVec Ideal S32x64 .f32) (ix2 k o)
      = (W (Proc.devRef .tc main_arg14) : FVec Ideal S64x32 .f32) (ix2 o k)) := by
  refine ⟨?_, ?_, ?_, ?_⟩ <;> intros <;> after_reads_at

/-- What the last stretch writes: the four arrays' channels one after another, the points last. -/
theorem host4 (u1 u2 : Fin 8 → Fin 2048 → Fin 16 → EReal) (u3 : Fin 8 → Fin 2048 → Fin 32 → EReal)
    (u4 : Fin 8 → Fin 2048 → Fin 64 → EReal)
    (h1 : ∀ B n o, (W (Proc.devRef .tc main_call0_v4) : FVec Ideal S8x2048x16 .f32) (ix3 B n o) = u1 B n o)
    (h2 : ∀ B n o, (W (Proc.devRef .tc main_call0_v8) : FVec Ideal S8x2048x16 .f32) (ix3 B n o) = u2 B n o)
    (h3 : ∀ B n o, (W (Proc.devRef .tc main_call0_v13) : FVec Ideal S8x2048x32 .f32) (ix3 B n o) = u3 B n o)
    (h4 : ∀ B n o, (W (Proc.devRef .tc main_call0_v18) : FVec Ideal S8x2048x64 .f32) (ix3 B n o) = u4 B n o)
    (B : Fin 8) (o : Fin 128) (n : Fin 2048) :
    (StableHlo.after hostOps4 W (Proc.devRef .tc main_v0) : FVec Ideal S8x128x2048 .f32) (ix3 B o n)
      = Spec.join (u1 B) (u2 B) (u3 B) (u4 B) n o := by
  after_reads_at
  unfold Spec.join
  simp only [← h1, ← h2, ← h3, ← h4]
  rfl

end Host

variable (m : (ℓ : Loc nD τ sig) → Buf (Elt Ideal) ℓ) (ρ : Dev nD → PrngReg) (c : Dev nD)

/-- The weights at launch. -/
def params : Spec.Params :=
  Spec.paramsOf (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13)) (m ((c : Thread nD τ).loc main_arg14))

/-- The points of a batch at launch. -/
def points (b : Fin 8) : Fin 2048 → Fin 3 → EReal := Spec.pointsOf (m ((c : Thread nD τ).loc main_arg0)) b

variable (hp : (params m c).Real) (hx : ∀ b n k, Spec.IsReal (points m c b n k))

include hp hx

/-- Kernel 0's output array is the first stage. -/
theorem val0 : (W2 m ρ c (Proc.devRef .tc main_call0_v4) : FVec Ideal S8x2048x16 .f32)
    = fun i : S8x2048x16.Idx => Spec.x1 (params m c) (points m c (i 0)) (i 1) (i 2) := by
  obtain ⟨ex, ew, eg, eb⟩ := host0 (W0 m ρ c)
  refine (W2_arr m ρ c 5).trans (arr0 (V1 m ρ) c (points m c) (params m c).w1 (params m c).g1
    (params m c).b1 (fun B => Spec.x1 (params m c) (points m c B))
    (fun B m' k => (ex B m' k).trans (congrFun (W0_args m ρ c main_arg0 (by decide)) _))
    (fun k o => (ew k o).trans (congrFun (W0_args m ρ c main_arg1 (by decide)) _))
    (fun o => (eg o).trans (congrFun (W0_args m ρ c main_arg2 (by decide)) _))
    (fun o => (eb o).trans (congrFun (W0_args m ρ c main_arg3 (by decide)) _))
    hx fun B n o => ?_)
  rw [Spec.x1]

/-- Kernel 1's output array is the second stage. -/
theorem val1 : (W4 m ρ c (Proc.devRef .tc main_call0_v8) : FVec Ideal S8x2048x16 .f32)
    = fun i : S8x2048x16.Idx => Spec.x2 (params m c) (points m c (i 0)) (i 1) (i 2) := by
  obtain ⟨ew, eg, eb⟩ := host1 (W2 m ρ c)
  have ex := (W3_of m ρ c main_call0_v4 (by decide)).trans (val0 m ρ c hp hx)
  refine (W4_arr m ρ c 5).trans (arr1 (V3 m ρ) c (fun B => Spec.x1 (params m c) (points m c B)) (params m c).w2 (params m c).g2
    (params m c).b2 (fun B => Spec.x2 (params m c) (points m c B))
    (fun B m' k => congrFun ex (ix3 B m' k))
    (fun k o => (ew k o).trans (congrFun (W2_args m ρ c main_arg4 (by decide)) _))
    (fun o => (eg o).trans (congrFun (W2_args m ρ c main_arg5 (by decide)) _))
    (fun o => (eb o).trans (congrFun (W2_args m ρ c main_arg6 (by decide)) _))
    (fun B => Spec.isReal_x1 hp) fun B n o => ?_)
  rw [Spec.x2]

/-- Kernel 2's output array is the third stage. -/
theorem val2 : (W6 m ρ c (Proc.devRef .tc main_call0_v13) : FVec Ideal S8x2048x32 .f32)
    = fun i : S8x2048x32.Idx => Spec.x3 (params m c) (points m c (i 0)) (i 1) (i 2) := by
  obtain ⟨ew, eg, eb, ea⟩ := host2 (W4 m ρ c)
  have ex := (W5_of m ρ c main_call0_v8 (by decide)).trans (val1 m ρ c hp hx)
  refine (W6_arr m ρ c 6).trans (arr2 (V5 m ρ) c (fun B => Spec.x2 (params m c) (points m c B)) (params m c).w3 (params m c).g3
    (params m c).b3 (params m c).a1 (fun B => Spec.x3 (params m c) (points m c B))
    (fun B m' k => congrFun ex (ix3 B m' k))
    (fun k o => (ew k o).trans (congrFun (W4_args m ρ c main_arg7 (by decide)) _))
    (fun o => (eg o).trans (congrFun (W4_args m ρ c main_arg8 (by decide)) _))
    (fun o => (eb o).trans (congrFun (W4_args m ρ c main_arg9 (by decide)) _))
    (fun k o => (ea k o).trans (congrFun (W4_args m ρ c main_arg13 (by decide)) _))
    (fun B => Spec.isReal_x2 hp) fun B n o => ?_)
  rw [Spec.x3]

/-- Kernel 3's output array is the fourth stage. -/
theorem val3 : (W8 m ρ c (Proc.devRef .tc main_call0_v18) : FVec Ideal S8x2048x64 .f32)
    = fun i : S8x2048x64.Idx => Spec.x4 (params m c) (points m c (i 0)) (i 1) (i 2) := by
  obtain ⟨ew, eg, eb, ea⟩ := host3 (W6 m ρ c)
  have ex := (W7_of m ρ c main_call0_v13 (by decide)).trans (val2 m ρ c hp hx)
  refine (W8_arr m ρ c 6).trans (arr3 (V7 m ρ) c (fun B => Spec.x3 (params m c) (points m c B)) (params m c).w4 (params m c).g4
    (params m c).b4 (params m c).a2 (fun B => Spec.x4 (params m c) (points m c B))
    (fun B m' k => congrFun ex (ix3 B m' k))
    (fun k o => (ew k o).trans (congrFun (W6_args m ρ c main_arg10 (by decide)) _))
    (fun o => (eg o).trans (congrFun (W6_args m ρ c main_arg11 (by decide)) _))
    (fun o => (eb o).trans (congrFun (W6_args m ρ c main_arg12 (by decide)) _))
    (fun k o => (ea k o).trans (congrFun (W6_args m ρ c main_arg14 (by decide)) _))
    (fun B => Spec.isReal_x3 hp) fun B n o => ?_)
  rw [Spec.x4]

/-- The result at an index, from the arguments at launch. -/
theorem value (b : Fin 8) (o : Fin 128) (n : Fin 2048) :
    (W9 m ρ c (Proc.devRef .tc main_v0) : FVec Ideal S8x128x2048 .f32) (ix3 b o n)
      = Spec.out (params m c) (points m c b) n o := by
  have k1 := (W8_of m ρ c main_call0_v4 (by decide)).trans ((W7_of m ρ c main_call0_v4 (by decide)).trans
    ((W6_of m ρ c main_call0_v4 (by decide)).trans ((W5_of m ρ c main_call0_v4 (by decide)).trans
    ((W4_of m ρ c main_call0_v4 (by decide)).trans ((W3_of m ρ c main_call0_v4 (by decide)).trans (val0 m ρ c hp hx))))))
  have k2 := (W8_of m ρ c main_call0_v8 (by decide)).trans ((W7_of m ρ c main_call0_v8 (by decide)).trans
    ((W6_of m ρ c main_call0_v8 (by decide)).trans ((W5_of m ρ c main_call0_v8 (by decide)).trans (val1 m ρ c hp hx))))
  have k3 := (W8_of m ρ c main_call0_v13 (by decide)).trans ((W7_of m ρ c main_call0_v13 (by decide)).trans
    (val2 m ρ c hp hx))
  exact host4 (W8 m ρ c) (fun B => Spec.x1 (params m c) (points m c B)) (fun B => Spec.x2 (params m c) (points m c B))
    (fun B => Spec.x3 (params m c) (points m c B)) (fun B => Spec.x4 (params m c) (points m c B))
    (fun B n o => congrFun k1 (ix3 B n o)) (fun B n o => congrFun k2 (ix3 B n o)) (fun B n o => congrFun k3 (ix3 B n o))
    (fun B n o => congrFun (val3 m ρ c hp hx) (ix3 B n o)) b o n

end Cert.KernelIdeal.Run

end
-- ==== Proof.RefStage.lean ====
/-
  A stage of the reference, for any numbers of channels: the operations in the order in which the reference applies them,
  as functions of the stage's points (batch, channel, point), its weights, its scale and its shift.
-/
module

public import Idealize.ShloMosaic.PureOps
public import Idealize.ShloMosaic.PureOps.Ideal

@[expose] public section

noncomputable section

namespace Cert.RefStage

open Idealize.ShloMosaic

abbrev S0 : Shape := ⟨0, ![]⟩
abbrev S1 (a : Nat) : Shape := ⟨1, ![a]⟩
abbrev S2 (a b : Nat) : Shape := ⟨2, ![a, b]⟩
abbrev S3 (a b c : Nat) : Shape := ⟨3, ![a, b, c]⟩
abbrev S4 (a b c d : Nat) : Shape := ⟨4, ![a, b, c, d]⟩

/-- The shape relations of a stage with `c` channels in, `c2` in a pair and `co` out. -/
structure Sides (c c2 co : Nat) : Prop where
  pos0 : 0 < S0.numel
  sum1 : (S3 8 c 2048).ReducesTo [1] (S2 8 2048)
  row : (S2 8 2048).BroadcastsInDim (S3 8 1 2048) (![0, 2] : Fin 2 → Fin 3)
  rowAll : (S3 8 1 2048).BroadcastsInDim (S3 8 2048 2048) (![0, 1, 2] : Fin 3 → Fin 3)
  two : S0.BroadcastsInDim (S3 8 2048 2048) (![] : Fin 0 → Fin 3)
  tr : (S3 8 c 2048).Transposes [0, 2, 1] (S3 8 2048 c)
  inner : DotDims.WF (S3 8 2048 c) (S3 8 c 2048) (S3 8 2048 2048) [2] [1] [1] [2] [0] [0]
  trRow : (S3 8 1 2048).Transposes [0, 2, 1] (S3 8 2048 1)
  colAll : (S3 8 2048 1).BroadcastsInDim (S3 8 2048 2048) (![0, 1, 2] : Fin 3 → Fin 3)
  top : (S3 8 2048 2048).Slices (fun _ => 0) (S3 8 2048 20)
  batch : (S1 8).ShapeCasts (S3 8 1 1)
  batchLen : S0.BroadcastsInDim (S3 8 1 1) (![] : Fin 0 → Fin 3)
  batchAll : (S3 8 1 1).BroadcastsInDim (S3 8 2048 20) (![0, 1, 2] : Fin 3 → Fin 3)
  flat : (S3 8 2048 20).ShapeCasts (S1 327680)
  flatAll : S0.BroadcastsInDim (S1 327680) (![] : Fin 0 → Fin 1)
  flatCol : (S1 327680).BroadcastsInDim (S2 327680 1) (![0] : Fin 1 → Fin 2)
  points : (S3 8 2048 c).ShapeCasts (S2 16384 c)
  take : GatherDims.WF (S2 16384 c) (S2 327680 1) (S2 327680 c) [1] [0] [] [0] [] 1 ![1, c]
  taken : (S2 327680 c).ShapeCasts (S4 8 2048 20 c)
  mid : (S3 8 2048 c).BroadcastsInDim (S4 8 2048 1 c) (![0, 1, 3] : Fin 3 → Fin 4)
  midAll : (S4 8 2048 1 c).BroadcastsInDim (S4 8 2048 20 c) (![0, 1, 2, 3] : Fin 4 → Fin 4)
  cat : Shape.Concatenates [S4 8 2048 20 c, S4 8 2048 20 c] (S4 8 2048 20 c2) 3
  front : (S4 8 2048 20 c2).Transposes [0, 3, 1, 2] (S4 8 c2 2048 20)
  prod : DotDims.WF (S4 8 c2 2048 20) (S2 co c2) (S4 8 2048 20 co) [1] [1] [0, 2, 3] [0] [] []
  frontOut : (S4 8 2048 20 co).Transposes [0, 3, 1, 2] (S4 8 co 2048 20)
  back : (S4 8 co 2048 20).Transposes [0, 2, 3, 1] (S4 8 2048 20 co)
  sum3 : (S4 8 2048 20 co).ReducesTo [3] (S3 8 2048 20)
  last : (S3 8 2048 20).BroadcastsInDim (S4 8 2048 20 1) (![0, 1, 2] : Fin 3 → Fin 4)
  lastOne : S0.BroadcastsInDim (S4 8 2048 20 1) (![] : Fin 0 → Fin 4)
  lastAll : (S4 8 2048 20 1).BroadcastsInDim (S4 8 2048 20 co) (![0, 1, 2, 3] : Fin 4 → Fin 4)
  chan : (S1 co).BroadcastsInDim (S4 1 1 1 co) (![3] : Fin 1 → Fin 4)
  chanAll : (S4 1 1 1 co).BroadcastsInDim (S4 8 2048 20 co) (![0, 1, 2, 3] : Fin 4 → Fin 4)
  outAll : S0.BroadcastsInDim (S4 8 co 2048 20) (![] : Fin 0 → Fin 4)
  best : (S4 8 co 2048 20).ReducesTo [3] (S3 8 co 2048)

variable {c c2 co : Nat} (h : Sides c c2 co) {F : FTy → Type} [FloatOps F]

/-- The pairings of the inner products of two points. -/
abbrev innerDims : DotDims (S3 8 2048 c) (S3 8 c 2048) (S3 8 2048 2048) :=
  ⟨[2], [1], [1], [2], [0], [0], h.inner⟩

/-- The pairings of the edge features with the weights. -/
abbrev prodDims : DotDims (S4 8 c2 2048 20) (S2 co c2) (S4 8 2048 20 co) :=
  ⟨[1], [1], [0, 2, 3], [0], [], [], h.prod⟩

/-- Taking whole rows of the points of all batches. -/
abbrev takeDims : GatherDims (S2 16384 c) (S2 327680 1) (S2 327680 c) :=
  ⟨[1], [0], [], [], [0], 1, ![1, c], h.take⟩

/-- The squared norm of every point. -/
def norms (x : FVec F (S3 8 c 2048) .f32) : FVec F (S3 8 1 2048) .f32 :=
  broadcastInDim (S3 8 1 2048) ![0, 2] h.row (Host.reduceAdd (mulf x x) (constant S0 .f32 0x00000000#32) h.sum1 h.pos0)

/-- The negated squared distance of every pair of points. -/
def dist (x : FVec F (S3 8 c 2048) .f32) : FVec F (S3 8 2048 2048) .f32 :=
  subf (subf (broadcastInDim (S3 8 2048 2048) ![0, 1, 2] h.rowAll (Host.negf (norms h x)))
      (mulf (broadcastInDim (S3 8 2048 2048) ![] h.two (constant S0 .f32 0xC0000000#32))
        (Host.dotGeneral (innerDims h) none (transpose (S3 8 2048 c) [0, 2, 1] x h.tr) x)))
    (broadcastInDim (S3 8 2048 2048) ![0, 1, 2] h.colAll (transpose (S3 8 2048 1) [0, 2, 1] (norms h x) h.trRow))

/-- The points, by batch, point and channel. -/
def rows (x : FVec F (S3 8 c 2048) .f32) : FVec F (S3 8 2048 c) .f32 := transpose (S3 8 2048 c) [0, 2, 1] x h.tr

/-- The positions of the twenty nearest points of every point, among the points of all batches. -/
def near (x : FVec F (S3 8 c 2048) .f32) : IVec (S1 327680) 32 :=
  shapeCast _ (addi ((Host.topK (S3 8 2048 20) 2 (FloatOps.cmpfTotal .gt) (dist h x) h.top).2)
    (broadcastInDim (S3 8 2048 20) ![0, 1, 2] h.batchAll (muli (shapeCast _ (iotaInDim (S1 8) 32 0) h.batch)
      (broadcastInDim (S3 8 1 1) ![] h.batchLen (constantI S0 32 2048#32))))) h.flat

/-- Every point, once for each of its twenty neighbours. -/
def centre (x : FVec F (S3 8 c 2048) .f32) : FVec F (S4 8 2048 20 c) .f32 :=
  broadcastInDim (S4 8 2048 20 c) ![0, 1, 2, 3] h.midAll (broadcastInDim (S4 8 2048 1 c) ![0, 1, 3] h.mid (rows h x))

/-- The neighbours. -/
def neighbours (x : FVec F (S3 8 c 2048) .f32) : FVec F (S4 8 2048 20 c) .f32 :=
  shapeCast _ (Host.gather (takeDims h) (shapeCast _ (rows h x) h.points)
    (broadcastInDim (S2 327680 1) ![0] h.flatCol
      (select (cmpi .slt (near h x) (broadcastInDim (S1 327680) ![] h.flatAll (constantI S0 32 0#32)))
        (addi (near h x) (broadcastInDim (S1 327680) ![] h.flatAll (constantI S0 32 16384#32))) (near h x)))) h.taken

/-- The edge features times the weights. -/
def conv (x : FVec F (S3 8 c 2048) .f32) (w : FVec F (S2 co c2) .f32) : FVec F (S4 8 2048 20 co) .f32 :=
  transpose (S4 8 2048 20 co) [0, 2, 3, 1] (transpose (S4 8 co 2048 20) [0, 3, 1, 2]
    (Host.dotGeneral (prodDims h) none (transpose (S4 8 c2 2048 20) [0, 3, 1, 2]
      (concatenate (S4 8 2048 20 c2) 3 [⟨S4 8 2048 20 c, subf (neighbours h x) (centre h x)⟩, ⟨S4 8 2048 20 c, centre h x⟩] h.cat)
      h.front) w) h.frontOut) h.back

variable (cw : BitVec 32)

/-- Each edge's values less their mean over the channels. -/
def dev (y : FVec F (S4 8 2048 20 co) .f32) : FVec F (S4 8 2048 20 co) .f32 :=
  subf y (broadcastInDim (S4 8 2048 20 co) ![0, 1, 2, 3] h.lastAll
    (Host.divf (broadcastInDim (S4 8 2048 20 1) ![0, 1, 2] h.last (Host.reduceAdd y (constant S0 .f32 0x00000000#32) h.sum3 h.pos0))
      (broadcastInDim (S4 8 2048 20 1) ![] h.lastOne (constant S0 .f32 cw))))

/-- The number of channels less a correction of zero. -/
def count : FVec F S0 .f32 := subf (constant S0 .f32 cw) (sitofp .f32 (constantI S0 32 0#32))

/-- A number for each channel, at every edge. -/
def spread (g : FVec F (S1 co) .f32) : FVec F (S4 8 2048 20 co) .f32 :=
  broadcastInDim (S4 8 2048 20 co) ![0, 1, 2, 3] h.chanAll (broadcastInDim (S4 1 1 1 co) ![3] h.chan g)

/-- The normalised values, scaled and shifted. -/
def scaled (y : FVec F (S4 8 2048 20 co) .f32) (g b : FVec F (S1 co) .f32) : FVec F (S4 8 2048 20 co) .f32 :=
  addf (mulf (Host.divf (dev h cw y)
      (broadcastInDim (S4 8 2048 20 co) ![0, 1, 2, 3] h.lastAll (Host.sqrt (addf
        (select (broadcastInDim (S4 8 2048 20 1) ![] h.lastOne (cmpf .ogt (count (F := F) cw) (constant S0 .f32 0x00000000#32)))
          (Host.divf (broadcastInDim (S4 8 2048 20 1) ![0, 1, 2] h.last
              (Host.reduceAdd (mulf (dev h cw y) (dev h cw y)) (constant S0 .f32 0x00000000#32) h.sum3 h.pos0))
            (broadcastInDim (S4 8 2048 20 1) ![] h.lastOne (count (F := F) cw)))
          (broadcastInDim (S4 8 2048 20 1) ![] h.lastOne (id (constant S0 .f32 0x7FC00000#32))))
        (broadcastInDim (S4 8 2048 20 1) ![] h.lastOne (constant S0 .f32 0x3727C5AC#32))))))
      (spread h g)) (spread h b)

/-- The same with the channels before the points. -/
def normed (y : FVec F (S4 8 2048 20 co) .f32) (g b : FVec F (S1 co) .f32) : FVec F (S4 8 co 2048 20) .f32 :=
  transpose (S4 8 co 2048 20) [0, 3, 1, 2] (scaled h cw y g b) h.frontOut

/-- The greatest over the neighbours, each value kept where it is positive and scaled down where it is not. -/
def greatest (z : FVec F (S4 8 co 2048 20) .f32) : FVec F (S3 8 co 2048) .f32 :=
  Host.reduce FloatOps.maximumf (select (cmpf .ogt z (broadcastInDim (S4 8 co 2048 20) ![] h.outAll (constant S0 .f32 0x00000000#32))) z
    (mulf (broadcastInDim (S4 8 co 2048 20) ![] h.outAll (constant S0 .f32 0x3E4CCCCD#32)) z)) (constant S0 .f32 0xFF800000#32) h.best h.pos0

/-- A stage. -/
def stage (x : FVec F (S3 8 c 2048) .f32) (w : FVec F (S2 co c2) .f32) (g b : FVec F (S1 co) .f32) : FVec F (S3 8 co 2048) .f32 :=
  greatest h (normed h cw (conv h x w) g b)

end Cert.RefStage

end
-- ==== Proof.RefRead.lean ====
/-
  What a stage of the reference leaves at a batch, a channel and a point, on the extended reals: the distances, the
  positions of the nearest points, the gathered points, the edge features times the weights, the normalisation and the
  leaky step, and the maximum over the neighbours — the stage of Spec.lean.
-/
module

public import Idealize.ShloMosaic.Lib.Pointwise
public import Idealize.ShloMosaic.Lib.Pointwise.IndexBridge
public import Idealize.ShloMosaic.Lib.ValueLayout
public import Idealize.ShloMosaic.Lib.WordArith
public import Idealize.ShloMosaic.Lib.WordCmp
public import proofs.«01_k».proof.Proof.RefStage
public import proofs.«01_k».proof.Proof.Spec

@[expose] public section

noncomputable section

namespace Cert.RefStage

open Idealize.ShloMosaic Cert.Picks

variable {c c2 co : Nat} (h : Sides c c2 co)

/-- A broadcast at an index, the operand's index named: along each axis it is the result's coordinate or the axis has
    one entry. -/
theorem bcast_apply {α : Type} {s t : Shape} (dims : Fin s.rank → Fin t.rank) (hb : s.BroadcastsInDim t dims) (x : s.Idx → α)
    (j : t.Idx) (i : s.Idx) (hi : ∀ a, (i a).val = (j (dims a)).val ∨ s.size a = 1) : broadcastInDim t dims hb x j = x i := by
  refine congrArg x (funext fun a => Fin.ext ?_)
  split
  · rename_i h1
    have h2 := (i a).isLt
    show 0 = _
    omega
  · rename_i h1
    exact ((hi a).resolve_right h1).symm

/-- The points transposed, at an index. -/
theorem rows_apply {F : FTy → Type} [FloatOps F] (x : FVec F (S3 8 c 2048) .f32) (b : Fin 8) (n : Fin 2048) (k : Fin c) :
    rows h x (ix3 b n k) = x (ix3 b k n) := by
  refine congrArg x (funext fun a => Fin.ext ?_)
  match a with
  | ⟨0, _⟩ => rfl
  | ⟨1, _⟩ => rfl
  | ⟨2, _⟩ => rfl

theorem norms_apply (x : FVec Ideal (S3 8 c 2048) .f32) (b : Fin 8) (u : Fin 1) (n : Fin 2048) :
    norms h x (ix3 b u n) = ∑ k : Fin c, x (ix3 b k n) * x (ix3 b k n) := by
  pointwise [norms]

/-- The inner products of two points. -/
theorem inner_apply (x : FVec Ideal (S3 8 2048 c) .f32) (y : FVec Ideal (S3 8 c 2048) .f32) (b : Fin 8) (n m : Fin 2048) :
    Ideal.matmul (innerDims h) x y (fun _ => 0) (ix3 b n m) = ∑ k : Fin c, x (ix3 b n k) * y (ix3 b k m) := by
  rw [Ideal.matmul_apply₁_of (innerDims h) rfl (K := c) rfl x y _ _ (fun k => ix3 b n k) (fun k => ix3 b k m), zero_add]
  · intro k
    refine funext fun a => Fin.ext ?_
    match a with
    | ⟨0, _⟩ => rfl
    | ⟨1, _⟩ => rfl
    | ⟨2, _⟩ => rfl
  · intro k
    refine funext fun a => Fin.ext ?_
    match a with
    | ⟨0, _⟩ => rfl
    | ⟨1, _⟩ => rfl
    | ⟨2, _⟩ => rfl

/-- The edge features times the weights, at an index. -/
theorem prod_apply (x : FVec Ideal (S4 8 c2 2048 20) .f32) (w : FVec Ideal (S2 co c2) .f32) (b : Fin 8) (n : Fin 2048) (t : Fin 20)
    (o : Fin co) :
    Ideal.matmul (prodDims h) x w (fun _ => 0) (ix4 b n t o) = ∑ k : Fin c2, x (ix4 b k n t) * w (ix2 o k) := by
  rw [Ideal.matmul_apply₁_of (prodDims h) rfl (K := c2) rfl x w _ _ (fun k => ix4 b k n t) (fun k => ix2 o k), zero_add]
  · intro k
    refine funext fun a => Fin.ext ?_
    match a with
    | ⟨0, _⟩ => rfl
    | ⟨1, _⟩ => rfl
    | ⟨2, _⟩ => rfl
    | ⟨3, _⟩ => rfl
  · intro k
    refine funext fun a => Fin.ext ?_
    match a with
    | ⟨0, _⟩ => rfl
    | ⟨1, _⟩ => rfl

/-- The points of a batch, by point and channel. -/
abbrev pts (x : FVec Ideal (S3 8 c 2048) .f32) (b : Fin 8) (n : Fin 2048) (k : Fin c) : EReal := x (ix3 b k n)

/-- The distances of real points. -/
theorem dist_apply (x : FVec Ideal (S3 8 c 2048) .f32) (b : Fin 8) (hx : ∀ n k, Spec.IsReal (pts x b n k)) (n m : Fin 2048) :
    dist h x (ix3 b n m) = Spec.ndist (pts x b) n m := by
  have e : dist h x (ix3 b n m) = (-(norms h x (ix3 b 0 m))
      - Ideal.ofBits .f32 0xC0000000#32 * Ideal.matmul (innerDims h) (rows h x) x (fun _ => 0) (ix3 b n m))
      - norms h x (ix3 b 0 n) := by
    pointwise [dist]
    rfl
  rw [e, inner_apply, norms_apply, norms_apply, Spec.neg_two_word]
  simp only [rows_apply]
  obtain ⟨p, hp⟩ := Spec.IsReal.sum Finset.univ fun k => (hx m k).mul (hx m k)
  obtain ⟨q, hq⟩ := Spec.IsReal.sum Finset.univ fun k => (hx n k).mul (hx n k)
  obtain ⟨r, hr⟩ := Spec.IsReal.sum Finset.univ fun k => (hx n k).mul (hx m k)
  rw [Spec.ndist, hp, hq, hr]
  rw [← EReal.coe_mul, ← EReal.coe_mul, ← EReal.coe_neg, ← EReal.coe_sub, ← EReal.coe_sub, ← EReal.coe_sub, ← EReal.coe_sub]
  refine congrArg _ ?_
  ring

/-- The positions of the greatest entries of a row, where no entry is −∞: the successive first greatest places. -/
theorem top_apply (d : FVec Ideal (S3 8 2048 2048) .f32) (b : Fin 8) (n : Fin 2048) (hd : ∀ m, d (ix3 b n m) ≠ ⊥) (t : Fin 20) :
    (Host.topK (S3 8 2048 20) 2 (FloatOps.cmpfTotal .gt) d h.top).2 (ix3 b n t)
      = BitVec.ofNat 32 (pick (fun m => d (ix3 b n m)) t.val).val := by
  have hf : (fun k k' : Fin 2048 => FloatOps.cmpfTotal (F := Ideal) (φ := .f32) .gt (d (ix3 b n k)) (d (ix3 b n k')) == 1#1)
      = fun k k' => decide (d (ix3 b n k') < d (ix3 b n k)) := by
    funext k k'
    show (BitVec.ofBool (decide (d (ix3 b n k') < d (ix3 b n k))) == 1#1) = _
    by_cases hlt : d (ix3 b n k') < d (ix3 b n k)
    · rw [decide_eq_true hlt]; rfl
    · rw [decide_eq_false hlt]; rfl
  have hs : ∀ k : Fin 2048, Function.update (ix3 b n (t.castLE (by decide : 20 ≤ 2048)) : (S3 8 2048 2048).Idx) 2 k = ix3 b n k := by
    intro k
    funext a
    match a with
    | ⟨0, _⟩ => rfl
    | ⟨1, _⟩ => rfl
    | ⟨2, _⟩ => rfl
  have hi : (fun a => ⟨0 + (ix3 b n t (a.cast h.top.1.symm)).val,
      Nat.lt_of_lt_of_le (Nat.add_lt_add_left (ix3 b n t _).isLt _) (h.top.2 a)⟩ : (S3 8 2048 2048).Idx)
        = ix3 b n (t.castLE (by decide : 20 ≤ 2048)) := by
    funext a
    refine Fin.ext ((Nat.zero_add _).trans ?_)
    match a with
    | ⟨0, _⟩ => rfl
    | ⟨1, _⟩ => rfl
    | ⟨2, _⟩ => rfl
  rw [← sortedFrom_eq_pick (fun m => d (ix3 b n m)) hd (by decide : 20 ≤ 2048) t, ← hf]
  unfold Host.topK extractStridedSlice
  dsimp only
  rw [hi]
  unfold Host.sort2
  rw [dif_pos (by decide : 2 < (S3 8 2048 2048).rank)]
  dsimp only [Shape.Idx.along]
  rw [dif_pos (by decide)]
  unfold iotaInDim
  rw [Function.update_self]
  refine congrArg (fun p : Fin 2048 => BitVec.ofNat 32 p.val) (congrFun (congrArg sortedFrom (funext fun k => funext fun k' => ?_)) _)
  exact congrArg₂ (fun u v => FloatOps.cmpfTotal (F := Ideal) (φ := .f32) .gt (d u) (d v) == 1#1) (hs k) (hs k')

/-- Rows taken from the points of all batches: the row at the position, where that is in range. -/
theorem gather_apply {α : Type} (x : (S2 16384 c).Idx → α) (idx : IVec (S2 327680 1) 32) (p : Fin 327680) (k : Fin c)
    (q : Fin 16384) (hq : (idx (ix2 p 0)).toInt.toNat = q.val) : Host.gather (takeDims h) x idx (ix2 p k) = x (ix2 q k) := by
  refine congrArg x (funext fun a => Fin.ext ?_)
  show (takeDims h).start (ix2 p k) idx a + (takeDims h).batchCoord (ix2 p k) a + (takeDims h).offCoord (ix2 p k) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h' => ((GatherDims.mem_sKept _ _).mp h').1 (List.mem_singleton.mpr rfl)), Nat.add_zero]
    unfold GatherDims.start
    rw [dif_pos (show (0 : Fin 2) ∈ (takeDims h).startIndexMap from List.mem_singleton.mpr rfl)]
    have hsi : (takeDims h).siIdx (ix2 p k) ⟨List.idxOf (0 : Fin 2) (takeDims h).startIndexMap,
        List.idxOf_lt_length_iff.2 (List.mem_singleton.mpr rfl)⟩ = ix2 p 0 := by
      funext b; refine Fin.ext ?_
      match b with
      | ⟨0, _⟩ => rfl
      | ⟨1, _⟩ => rfl
    refine (congrArg (fun z => min (idx z).toInt.toNat (16384 - 1)) hsi).trans ?_
    have := q.isLt
    show min (idx (ix2 p 0)).toInt.toNat (16384 - 1) = q.val
    omega
  · unfold GatherDims.start
    rw [dif_neg (show (1 : Fin 2) ∉ (takeDims h).startIndexMap from (by decide : (1 : Fin 2) ∉ ([0] : List (Fin 2)))), Nat.zero_add]
    rfl

/-- The place of the `t`-th neighbour of a point among all edges. -/
abbrev edgeAt (b : Fin 8) (n : Fin 2048) (t : Fin 20) : Fin 327680 := ⟨(b.val * 2048 + n.val) * 20 + t.val, by omega⟩

/-- The place of a point of a batch among the points of all batches. -/
abbrev pointAt (b : Fin 8) (n : Fin 2048) : Fin 16384 := ⟨b.val * 2048 + n.val, by omega⟩

/-- The position stored for the `t`-th neighbour of a point. -/
theorem near_apply (x : FVec Ideal (S3 8 c 2048) .f32) (b : Fin 8) (hx : ∀ n k, Spec.IsReal (pts x b n k)) (n : Fin 2048) (t : Fin 20) :
    (near h x (ix1 (edgeAt b n t))).toNat = (pointAt b (pick (Spec.ndist (pts x b) n) t.val)).val := by
  have e : near h x (ix1 (edgeAt b n t)) = (Host.topK (S3 8 2048 20) 2 (FloatOps.cmpfTotal .gt) (dist h x) h.top).2 (ix3 b n t)
      + BitVec.ofNat 32 b.val * 2048#32 := by
    have e1 : (⟨(edgeAt b n t).val / 40960, by omega⟩ : Fin 8) = b := Fin.ext (by simp only; omega)
    have e2 : (⟨(edgeAt b n t).val / 20 % 2048, by omega⟩ : Fin 2048) = n := Fin.ext (by simp only; omega)
    have e3 : (⟨(edgeAt b n t).val % 20, by omega⟩ : Fin 20) = t := Fin.ext (by simp only; omega)
    have e0 : ∀ j : Fin 327680, near h x (ix1 j) = IntOp.addi ((Host.topK (S3 8 2048 20) 2 (FloatOps.cmpfTotal .gt) (dist h x) h.top).2
      (ix3 ⟨j.val / 40960, by omega⟩ ⟨j.val / 20 % 2048, by omega⟩ ⟨j.val % 20, by omega⟩))
      (IntOp.muli (BitVec.ofNat 32 (j.val / 40960)) 2048#32) := by
      intro j
      pointwise [near]
    rw [e0, e1, e2, e3, show (edgeAt b n t).val / 40960 = b.val from by simp only; omega]
    rfl
  have hd : (fun m => dist h x (ix3 b n m)) = Spec.ndist (pts x b) n := funext fun m => dist_apply h x b hx n m
  rw [e, top_apply h _ b n (fun m => by rw [dist_apply h x b hx]; exact (Spec.isReal_ndist hx n m).ne_bot), hd]
  have h1 := (pick (Spec.ndist (pts x b) n) t.val).isLt
  have h2 := b.isLt
  rw [BitVec.toNat_add, BitVec.toNat_mul, BitVec.toNat_ofNat, BitVec.toNat_ofNat, BitVec.toNat_ofNat]
  simp only
  omega

/-- The neighbours at an index: the channel of the neighbouring point. -/
theorem neighbours_apply (x : FVec Ideal (S3 8 c 2048) .f32) (b : Fin 8) (hx : ∀ n k, Spec.IsReal (pts x b n k)) (n : Fin 2048)
    (t : Fin 20) (k : Fin c) : neighbours h x (ix4 b n t k) = pts x b (pick (Spec.ndist (pts x b) n) t.val) k := by
  have e1 : Shape.reshapeEquiv h.taken (ix4 b n t k) = (ix2 (edgeAt b n t) k : (S2 327680 c).Idx) := by
    refine Shape.reshapeEquiv_eq_of_vals _ _ _ _ _ (rowMajor_val2 _ c rfl) (rowMajor_val4 _ (2048 * (20 * c)) (20 * c) c rfl rfl rfl) ?_
    show ((b.val * 2048 + n.val) * 20 + t.val) * c + k.val = b.val * (2048 * (20 * c)) + n.val * (20 * c) + t.val * c + k.val
    ring
  have e2 : ∀ m, Shape.reshapeEquiv h.points (ix2 (pointAt b m) k) = (ix3 b m k : (S3 8 2048 c).Idx) := by
    intro m
    refine Shape.reshapeEquiv_eq_of_vals _ _ _ _ _ (rowMajor_val3 _ (2048 * c) c rfl rfl) (rowMajor_val2 _ c rfl) ?_
    show b.val * (2048 * c) + m.val * c + k.val = (b.val * 2048 + m.val) * c + k.val
    ring
  have hn := near_apply h x b hx n t
  have hlt := (pointAt b (pick (Spec.ndist (pts x b) n) t.val)).isLt
  unfold neighbours
  rw [Pointwise.shapeCast_apply, e1, gather_apply h _ _ _ _ (pointAt b (pick (Spec.ndist (pts x b) n) t.val)),
    Pointwise.shapeCast_apply, e2, rows_apply]
  rw [bcast_apply _ _ _ _ (ix1 (edgeAt b n t)) (fun a => Or.inl (by obtain rfl : a = 0 := Subsingleton.elim _ _; rfl))]
  have hs : IntOp.cmpi .slt (near h x (ix1 (edgeAt b n t))) 0#32 = 0#1 := by
    rw [← hn] at hlt
    simp only [IntOp.cmpi, BitVec.slt, BitVec.toInt_eq_toNat_of_lt (show 2 * (near h x (ix1 (edgeAt b n t))).toNat < 2 ^ 32 by omega)]
    rw [BitVec.toInt_zero, decide_eq_false (by omega)]
    rfl
  show (Scalar.select (IntOp.cmpi .slt (near h x (ix1 (edgeAt b n t))) 0#32) _ (near h x (ix1 (edgeAt b n t)))).toInt.toNat = _
  rw [hs, ← hn]
  show (near h x (ix1 (edgeAt b n t))).toInt.toNat = _
  rw [BitVec.toInt_eq_toNat_of_lt (by omega)]
  rfl

/-- The centre at an index. -/
theorem centre_apply (x : FVec Ideal (S3 8 c 2048) .f32) (b : Fin 8) (n : Fin 2048) (t : Fin 20) (k : Fin c) :
    centre h x (ix4 b n t k) = pts x b n k := by
  unfold centre
  rw [bcast_apply _ _ _ _ (ix4 b n 0 k), bcast_apply _ _ _ _ (ix3 b n k), rows_apply]
  · intro a
    match a with
    | ⟨0, _⟩ => exact Or.inl rfl
    | ⟨1, _⟩ => exact Or.inl rfl
    | ⟨2, _⟩ => exact Or.inl rfl
  · intro a
    match a with
    | ⟨0, _⟩ => exact Or.inl rfl
    | ⟨1, _⟩ => exact Or.inl rfl
    | ⟨2, _⟩ => exact Or.inr rfl
    | ⟨3, _⟩ => exact Or.inl rfl

/-- The edge features times the weights, of an edge. -/
theorem conv_apply (hc2 : c2 = c + c) (x : FVec Ideal (S3 8 c 2048) .f32) (w : FVec Ideal (S2 co c2) .f32) (b : Fin 8)
    (hx : ∀ n k, Spec.IsReal (pts x b n k)) (n : Fin 2048) (t : Fin 20) (o : Fin co) :
    conv h x w (ix4 b n t o) = Spec.lin (fun k o => w (ix2 o k))
      (Spec.feat hc2 (pts x b (pick (Spec.ndist (pts x b) n) t.val)) (pts x b n)) o := by
  have e1 : ∀ z : FVec Ideal (S4 8 2048 20 co) .f32, transpose (S4 8 2048 20 co) [0, 2, 3, 1]
      (transpose (S4 8 co 2048 20) [0, 3, 1, 2] z h.frontOut) h.back (ix4 b n t o) = z (ix4 b n t o) := by
    intro z
    refine congrArg z (funext fun a => Fin.ext ?_)
    match a with
    | ⟨0, _⟩ => rfl
    | ⟨1, _⟩ => rfl
    | ⟨2, _⟩ => rfl
    | ⟨3, _⟩ => rfl
  have e2 : ∀ (z : FVec Ideal (S4 8 2048 20 c2) .f32) (k : Fin c2), transpose (S4 8 c2 2048 20) [0, 3, 1, 2] z h.front (ix4 b k n t)
      = z (ix4 b n t k) := by
    intro z k
    refine congrArg z (funext fun a => Fin.ext ?_)
    match a with
    | ⟨0, _⟩ => rfl
    | ⟨1, _⟩ => rfl
    | ⟨2, _⟩ => rfl
    | ⟨3, _⟩ => rfl
  unfold conv
  rw [e1]
  refine (prod_apply h _ w b n t o).trans ?_
  refine Finset.sum_congr rfl fun k _ => congrArg (· * _) ?_
  rw [e2]
  unfold Spec.feat
  by_cases h1 : k.val < c
  · rw [dif_pos h1, ← neighbours_apply h x b hx, ← centre_apply h x b n t]
    pointwise [h1]
    simp only [Shape.Idx.norm4]
    rfl
  · rw [dif_neg h1, ← centre_apply h x b n t]
    pointwise [h1]
    simp only [Shape.Idx.norm4]
    rfl

/-- An edge's value less the mean over the channels. -/
theorem dev_apply (cw : BitVec 32) (y : FVec Ideal (S4 8 2048 20 co) .f32) (b : Fin 8) (n : Fin 2048) (t : Fin 20) (o : Fin co) :
    dev h cw y (ix4 b n t o) = y (ix4 b n t o) - Spec.mean (Ideal.ofBits .f32 cw) (fun o => y (ix4 b n t o)) := by
  unfold Spec.mean
  pointwise [dev]

theorem spread_apply (g : FVec Ideal (S1 co) .f32) (b : Fin 8) (n : Fin 2048) (t : Fin 20) (o : Fin co) :
    spread h g (ix4 b n t o) = g (ix1 o) := by
  unfold spread
  rw [bcast_apply _ _ _ _ (ix4 0 0 0 o), bcast_apply _ _ _ _ (ix1 o)]
  · intro a
    obtain rfl : a = 0 := Subsingleton.elim _ _
    exact Or.inl rfl
  · intro a
    match a with
    | ⟨0, _⟩ => exact Or.inr rfl
    | ⟨1, _⟩ => exact Or.inr rfl
    | ⟨2, _⟩ => exact Or.inr rfl
    | ⟨3, _⟩ => exact Or.inl rfl

/-- The number of channels. -/
theorem count_apply (cw : BitVec 32) : count (F := Ideal) cw ix0 = Ideal.ofBits .f32 cw := by
  have e : count (F := Ideal) cw ix0 = Ideal.ofBits .f32 cw - (((0#32 : BitVec 32).toInt : ℝ) : EReal) := rfl
  rw [e]; simp

/-- The normalised values of an edge. -/
theorem normed_apply (cw : BitVec 32) {r : ℝ} (hr : 0 < r) (hcw : Ideal.ofBits .f32 cw = (r : EReal))
    (y : FVec Ideal (S4 8 2048 20 co) .f32) (g s : FVec Ideal (S1 co) .f32) (b : Fin 8) (n : Fin 2048) (t : Fin 20)
    (o : Fin co) :
    normed h cw y g s (ix4 b o n t)
      = Spec.norm (Ideal.ofBits .f32 cw) (fun o => y (ix4 b n t o)) (fun o => g (ix1 o)) (fun o => s (ix1 o)) o := by
  have e1 : normed h cw y g s (ix4 b o n t) = scaled h cw y g s (ix4 b n t o) := by
    refine congrArg (scaled h cw y g s) (funext fun a => Fin.ext ?_)
    match a with
    | ⟨0, _⟩ => rfl
    | ⟨1, _⟩ => rfl
    | ⟨2, _⟩ => rfl
    | ⟨3, _⟩ => rfl
  have h0 : (0 : EReal) < Ideal.ofBits .f32 cw := by rw [hcw]; exact_mod_cast hr
  have e2 : scaled h cw y g s (ix4 b n t o) = Ideal.div (dev h cw y (ix4 b n t o)) (Ideal.sqrt ((if 0 < count (F := Ideal) cw ix0 then
      Ideal.div (∑ o, dev h cw y (ix4 b n t o) * dev h cw y (ix4 b n t o)) (count (F := Ideal) cw ix0)
        else id (constant (F := Ideal) S0 .f32 0x7FC00000#32) ix0) + Ideal.ofBits .f32 0x3727C5AC#32))
      * spread h g (ix4 b n t o) + spread h s (ix4 b n t o) := by
    pointwise [scaled]
  rw [e1, e2, count_apply, if_pos h0, spread_apply, spread_apply]
  simp only [dev_apply]
  rw [hcw]
  exact Spec.norm_eq_div hr _ (fun o => g (ix1 o)) (fun o => s (ix1 o)) o

/-- The maximum over the neighbours. -/
theorem greatest_apply (z : FVec Ideal (S4 8 co 2048 20) .f32) (b : Fin 8) (n : Fin 2048) (o : Fin co) (f : Nat → EReal)
    (hf : ∀ t : Fin 20, z (ix4 b o n t) = f t.val) :
    greatest h z (ix3 b o n) = (Finset.range 20).sup fun t => Spec.leaky (f t) := by
  have e : greatest h z (ix3 b o n) = Finset.univ.fold max (Ideal.ofBits .f32 0xFF800000#32) (fun t : Fin 20 =>
      if 0 < z (ix4 b o n t) then z (ix4 b o n t) else Ideal.ofBits .f32 0x3E4CCCCD#32 * z (ix4 b o n t)) := by
    pointwise [greatest]
  rw [e, Spec.bot_word]
  simp only [hf]
  refine le_antisymm ((Finset.fold_max_le _).mpr ⟨bot_le, fun t _ => ?_⟩) (Finset.sup_le fun t ht => ?_)
  · exact Finset.le_sup (f := fun t => Spec.leaky (f t)) (Finset.mem_range.mpr t.isLt)
  · exact (Finset.le_fold_max _).mpr (.inr ⟨⟨t, Finset.mem_range.mp ht⟩, Finset.mem_univ _, le_rfl⟩)

/-- A stage of the reference, of real points, is the stage of Spec.lean. -/
theorem stage_apply (hc2 : c2 = c + c) (cw : BitVec 32) {r : ℝ} (hr : 0 < r) (hcw : Ideal.ofBits .f32 cw = (r : EReal))
    (x : FVec Ideal (S3 8 c 2048) .f32) (w : FVec Ideal (S2 co c2) .f32) (g s : FVec Ideal (S1 co) .f32) (b : Fin 8)
    (hx : ∀ n k, Spec.IsReal (pts x b n k)) (n : Fin 2048) (o : Fin co) :
    stage h cw x w g s (ix3 b o n) = Spec.stage hc2 (Ideal.ofBits .f32 cw) (pts x b) (fun k o => w (ix2 o k)) (fun o => g (ix1 o))
      (fun o => s (ix1 o)) n o := by
  unfold stage Spec.stage Spec.edge
  refine greatest_apply h _ b n o _ fun t => ?_
  rw [normed_apply h cw hr hcw]
  simp only [conv_apply h hc2 x w b hx]

end Cert.RefStage

end
-- ==== Proof.RefLink.lean ====
/-
  The reference's result at an index: the channels of the four stages of Net.lean, of the arguments' entries.
-/
module

public import proofs.«01_k».proof.Proof.RefRead
public import proofs.«01_k».proof.Proof.Net
public import proofs.«01_k».proof.Proof.Gen.ReferenceIdeal.Run

@[expose] public section

noncomputable section

namespace Cert.RefLink

open Idealize.ShloMosaic Cert.ReferenceIdeal Cert.RefStage Cert.Picks
open Facts₀ Facts
open Cert.ReferenceIdeal.Value (res_main_v62 res_main_v126 res_main_v192 res_main_v249)

theorem sides1 : Sides 3 6 16 := by constructor <;> decide
theorem sides2 : Sides 16 32 16 := by constructor <;> decide
theorem sides3 : Sides 16 32 32 := by constructor <;> decide
theorem sides4 : Sides 32 64 64 := by constructor <;> decide

/-- A point's channels times a matrix, the channels then before the points. -/
theorem resid_apply {c co : Nat} (hw : DotDims.WF (S3 8 c 2048) (S2 co c) (S3 8 2048 co) [1] [1] [0, 2] [0] [] [])
    (ht : (S3 8 2048 co).Transposes [0, 2, 1] (S3 8 co 2048)) (x : FVec Ideal (S3 8 c 2048) .f32) (a : FVec Ideal (S2 co c) .f32)
    (b : Fin 8) (n : Fin 2048) (o : Fin co) :
    transpose (S3 8 co 2048) [0, 2, 1] (Ideal.matmul ⟨[1], [1], [0, 2], [0], [], [], hw⟩ x a (fun _ => 0)) ht (ix3 b o n)
      = Spec.resid (fun o k => a (ix2 o k)) (pts x b) n o := by
  have e : ∀ z : FVec Ideal (S3 8 2048 co) .f32, transpose (S3 8 co 2048) [0, 2, 1] z ht (ix3 b o n) = z (ix3 b n o) := by
    intro z
    refine congrArg z (funext fun a => Fin.ext ?_)
    match a with
    | ⟨0, _⟩ => rfl
    | ⟨1, _⟩ => rfl
    | ⟨2, _⟩ => rfl
  rw [e, Ideal.matmul_apply₁_of _ rfl (K := c) rfl x a _ _ (fun k => ix3 b k n) (fun k => ix2 o k), zero_add]
  · rfl
  · intro k
    refine funext fun a => Fin.ext ?_
    match a with
    | ⟨0, _⟩ => rfl
    | ⟨1, _⟩ => rfl
    | ⟨2, _⟩ => rfl
  · intro k
    refine funext fun a => Fin.ext ?_
    match a with
    | ⟨0, _⟩ => rfl
    | ⟨1, _⟩ => rfl

theorem residDims3 : DotDims.WF (S3 8 16 2048) (S2 32 16) (S3 8 2048 32) [1] [1] [0, 2] [0] [] [] := by decide
theorem residDims4 : DotDims.WF (S3 8 32 2048) (S2 64 32) (S3 8 2048 64) [1] [1] [0, 2] [0] [] [] := by decide
theorem residTr3 : (S3 8 2048 32).Transposes [0, 2, 1] (S3 8 32 2048) := by decide
theorem residTr4 : (S3 8 2048 64).Transposes [0, 2, 1] (S3 8 64 2048) := by decide
theorem cats : Shape.Concatenates [S3 8 16 2048, S3 8 16 2048, S3 8 32 2048, S3 8 64 2048] (S3 8 128 2048) 1 := by decide

/-- A sum at an index. -/
theorem addf_at {s : Shape} (x y : FVec Ideal s .f32) (i : s.Idx) : addf x y i = x i + y i := rfl

/-- The arguments' contents and the four stages' arrays of them. -/
structure Arrays where
  a0 : FVec Ideal (S3 8 3 2048) .f32
  a1 : FVec Ideal (S2 16 6) .f32
  a2 : FVec Ideal (S1 16) .f32
  a3 : FVec Ideal (S1 16) .f32
  a4 : FVec Ideal (S2 16 32) .f32
  a5 : FVec Ideal (S1 16) .f32
  a6 : FVec Ideal (S1 16) .f32
  a7 : FVec Ideal (S2 32 32) .f32
  a8 : FVec Ideal (S1 32) .f32
  a9 : FVec Ideal (S1 32) .f32
  a10 : FVec Ideal (S2 64 64) .f32
  a11 : FVec Ideal (S1 64) .f32
  a12 : FVec Ideal (S1 64) .f32
  a13 : FVec Ideal (S2 32 16) .f32
  a14 : FVec Ideal (S2 64 32) .f32
  y1 : FVec Ideal (S3 8 16 2048) .f32
  y2 : FVec Ideal (S3 8 16 2048) .f32
  y3 : FVec Ideal (S3 8 32 2048) .f32
  y4 : FVec Ideal (S3 8 64 2048) .f32
  y1_eq : y1 = RefStage.stage sides1 0x41800000#32 a0 a1 a2 a3
  y2_eq : y2 = addf (RefStage.stage sides2 0x41800000#32 y1 a4 a5 a6) y1
  y3_eq : y3 = addf (RefStage.stage sides3 0x42000000#32 y2 a7 a8 a9) (transpose (S3 8 32 2048) [0, 2, 1]
    (Ideal.matmul ⟨[1], [1], [0, 2], [0], [], [], residDims3⟩ y2 a13 (fun _ => 0)) residTr3)
  y4_eq : y4 = addf (RefStage.stage sides4 0x42800000#32 y3 a10 a11 a12) (transpose (S3 8 64 2048) [0, 2, 1]
    (Ideal.matmul ⟨[1], [1], [0, 2], [0], [], [], residDims4⟩ y3 a14 (fun _ => 0)) residTr4)

namespace Arrays

variable (A : Arrays)

/-- The weights in the arguments. -/
def params : Spec.Params where
  w1 k o := A.a1 (ix2 o k)
  g1 o := A.a2 (ix1 o)
  b1 o := A.a3 (ix1 o)
  w2 k o := A.a4 (ix2 o k)
  g2 o := A.a5 (ix1 o)
  b2 o := A.a6 (ix1 o)
  w3 k o := A.a7 (ix2 o k)
  g3 o := A.a8 (ix1 o)
  b3 o := A.a9 (ix1 o)
  w4 k o := A.a10 (ix2 o k)
  g4 o := A.a11 (ix1 o)
  b4 o := A.a12 (ix1 o)
  a1 o k := A.a13 (ix2 o k)
  a2 o k := A.a14 (ix2 o k)

/-- The points of a batch in the arguments. -/
def points (b : Fin 8) : Fin 2048 → Fin 3 → EReal := pts A.a0 b

/-- The result. -/
def result : FVec Ideal (S3 8 128 2048) .f32 :=
  concatenate (S3 8 128 2048) 1 [⟨S3 8 16 2048, A.y1⟩, ⟨S3 8 16 2048, A.y2⟩, ⟨S3 8 32 2048, A.y3⟩, ⟨S3 8 64 2048, A.y4⟩] cats

variable {A} (hp : A.params.Real) (b : Fin 8) (hx : ∀ n k, Spec.IsReal (A.points b n k))

include hp hx

/-- The first stage's array at an index. -/
theorem y1_pts : pts A.y1 b = Spec.x1 A.params (A.points b) := by
  funext n o
  rw [pts, A.y1_eq]
  exact RefStage.stage_apply sides1 rfl _ (r := 16) (by norm_num) Spec.word16 A.a0 A.a1 A.a2 A.a3 b hx n o

/-- The second stage's array at an index. -/
theorem y2_pts : pts A.y2 b = Spec.x2 A.params (A.points b) := by
  have e := y1_pts hp b hx
  funext n o
  have h1 := RefStage.stage_apply sides2 rfl _ (r := 16) (by norm_num) Spec.word16 A.y1 A.a4 A.a5 A.a6 b
    (by rw [e]; exact Spec.isReal_x1 hp) n o
  have h2 : A.y1 (ix3 b o n) = Spec.x1 A.params (A.points b) n o := congrFun (congrFun e n) o
  rw [e] at h1
  rw [pts, A.y2_eq]
  rw [addf_at, h1, h2, Spec.x2]
  dsimp only [params]

/-- The third stage's array at an index. -/
theorem y3_pts : pts A.y3 b = Spec.x3 A.params (A.points b) := by
  have e := y2_pts hp b hx
  funext n o
  have h1 := RefStage.stage_apply sides3 rfl _ (r := 32) (by norm_num) Spec.word32 A.y2 A.a7 A.a8 A.a9 b
    (by rw [e]; exact Spec.isReal_x2 hp) n o
  have h2 := resid_apply residDims3 residTr3 A.y2 A.a13 b n o
  rw [e] at h1 h2
  rw [pts, A.y3_eq]
  rw [addf_at, h1, h2, Spec.x3]
  dsimp only [params]

/-- The fourth stage's array at an index. -/
theorem y4_pts : pts A.y4 b = Spec.x4 A.params (A.points b) := by
  have e := y3_pts hp b hx
  funext n o
  have h1 := RefStage.stage_apply sides4 rfl _ (r := 64) (by norm_num) Spec.word64 A.y3 A.a10 A.a11 A.a12 b
    (by rw [e]; exact Spec.isReal_x3 hp) n o
  have h2 := resid_apply residDims4 residTr4 A.y3 A.a14 b n o
  rw [e] at h1 h2
  rw [pts, A.y4_eq]
  rw [addf_at, h1, h2, Spec.x4]
  dsimp only [params]

/-- The result at an index. -/
theorem result_apply (n : Fin 2048) (o : Fin 128) : A.result (ix3 b o n) = Spec.out A.params (A.points b) n o := by
  rw [Spec.out, ← y1_pts hp b hx, ← y2_pts hp b hx, ← y3_pts hp b hx, ← y4_pts hp b hx]
  have e : ∀ (z1 z2 : FVec Ideal (S3 8 16 2048) .f32) (z3 : FVec Ideal (S3 8 32 2048) .f32) (z4 : FVec Ideal (S3 8 64 2048) .f32),
      concatenate (S3 8 128 2048) 1 [⟨S3 8 16 2048, z1⟩, ⟨S3 8 16 2048, z2⟩, ⟨S3 8 32 2048, z3⟩, ⟨S3 8 64 2048, z4⟩] cats (ix3 b o n)
        = Spec.join (pts z1 b) (pts z2 b) (pts z3 b) (pts z4 b) n o := by
    intro z1 z2 z3 z4
    unfold Spec.join
    pointwise
  exact e A.y1 A.y2 A.y3 A.y4

end Arrays

variable (V : Valuation τ sig (Elt Ideal))

set_option maxRecDepth 8192 in
/-- The last operand of the reference's result is the fourth stage's array. -/
theorem y4_def : (addf (Host.reduce FloatOps.maximumf (select (cmpf .ogt (res_main_v249 V) (broadcastInDim S8x64x2048x20 ![]
      bcast_S_S8x64x2048x20 (constant S_ .f32 0x00000000#32))) (res_main_v249 V) (mulf (broadcastInDim S8x64x2048x20 ![]
      bcast_S_S8x64x2048x20 (constant S_ .f32 0x3E4CCCCD#32)) (res_main_v249 V))) (constant S_ .f32 0xFF800000#32)
      reducesTo_S8x64x2048x20_S8x64x2048_d3 h_S_) (transpose S8x64x2048 [0, 2, 1] (Host.dotGeneral (φ₁ := .f32) (φ₂ := .f32)
      dot_S8x32x2048_S64x32_S8x2048x64_1_1_02_0_n_n none (res_main_v192 V) (V (Proc.devRef .tc main_arg14)))
      transposes_S8x2048x64_S8x64x2048_0_2_1) : FVec Ideal S8x64x2048 .f32)
    = addf (RefStage.stage sides4 0x42800000#32 (res_main_v192 V) (V (Proc.devRef .tc main_arg10)) (V (Proc.devRef .tc main_arg11))
        (V (Proc.devRef .tc main_arg12))) (transpose (S3 8 64 2048) [0, 2, 1] (Host.dotGeneral (F := Ideal) (φ₁ := .f32) (φ₂ := .f32)
          (⟨[1], [1], [0, 2], [0], [], [], residDims4⟩ : DotDims (S3 8 32 2048) (S2 64 32) (S3 8 2048 64)) none
          (res_main_v192 V) (V (Proc.devRef .tc main_arg14))) residTr4) := by
  refine congrArg₂ addf ?_ rfl
  rfl

set_option maxRecDepth 8192 in
/-- The reference's arrays. -/
def arrays : Arrays where
  a0 := V (Proc.devRef .tc main_arg0)
  a1 := V (Proc.devRef .tc main_arg1)
  a2 := V (Proc.devRef .tc main_arg2)
  a3 := V (Proc.devRef .tc main_arg3)
  a4 := V (Proc.devRef .tc main_arg4)
  a5 := V (Proc.devRef .tc main_arg5)
  a6 := V (Proc.devRef .tc main_arg6)
  a7 := V (Proc.devRef .tc main_arg7)
  a8 := V (Proc.devRef .tc main_arg8)
  a9 := V (Proc.devRef .tc main_arg9)
  a10 := V (Proc.devRef .tc main_arg10)
  a11 := V (Proc.devRef .tc main_arg11)
  a12 := V (Proc.devRef .tc main_arg12)
  a13 := V (Proc.devRef .tc main_arg13)
  a14 := V (Proc.devRef .tc main_arg14)
  y1 := res_main_v62 V
  y2 := res_main_v126 V
  y3 := res_main_v192 V
  y4 := addf (Host.reduce FloatOps.maximumf (select (cmpf .ogt (res_main_v249 V) (broadcastInDim S8x64x2048x20 ![] bcast_S_S8x64x2048x20
      (constant S_ .f32 0x00000000#32))) (res_main_v249 V) (mulf (broadcastInDim S8x64x2048x20 ![] bcast_S_S8x64x2048x20
      (constant S_ .f32 0x3E4CCCCD#32)) (res_main_v249 V))) (constant S_ .f32 0xFF800000#32) reducesTo_S8x64x2048x20_S8x64x2048_d3 h_S_)
    (transpose S8x64x2048 [0, 2, 1] (Host.dotGeneral (φ₁ := .f32) (φ₂ := .f32) dot_S8x32x2048_S64x32_S8x2048x64_1_1_02_0_n_n none (res_main_v192 V)
      (V (Proc.devRef .tc main_arg14))) transposes_S8x2048x64_S8x64x2048_0_2_1)
  y1_eq := rfl
  y2_eq := rfl
  y3_eq := rfl
  y4_eq := y4_def V

end Cert.RefLink

end
-- ==== Proof.Algebraic.lean ====
/-
  The kernel's result and the reference's are equal where the precondition holds: both are the four stages of Net.lean on the
  arguments' entries.
-/
module

public import proofs.«01_k».proof.Defs
public import proofs.«01_k».proof.Proof.KernelValue
public import proofs.«01_k».proof.Proof.RefLink
public import proofs.«01_k».proof.Proof.Finite

@[expose] public section

set_option maxRecDepth 16384

noncomputable section

namespace Cert.Algebraic

open Idealize.ShloMosaic Idealize.SL.Sem
open Cert.KernelIdeal.Run (params points value ix3_surj)

/-- The weights the reference reads are the ones in its arguments' arrays. -/
theorem ref_params (V : Valuation ReferenceIdeal.τ ReferenceIdeal.sig (Elt Ideal)) : (RefLink.arrays V).params =
    Spec.paramsOf
      (V (Proc.devRef .tc ReferenceIdeal.main_arg1)) (V (Proc.devRef .tc ReferenceIdeal.main_arg2))
      (V (Proc.devRef .tc ReferenceIdeal.main_arg3)) (V (Proc.devRef .tc ReferenceIdeal.main_arg4))
      (V (Proc.devRef .tc ReferenceIdeal.main_arg5)) (V (Proc.devRef .tc ReferenceIdeal.main_arg6))
      (V (Proc.devRef .tc ReferenceIdeal.main_arg7)) (V (Proc.devRef .tc ReferenceIdeal.main_arg8))
      (V (Proc.devRef .tc ReferenceIdeal.main_arg9)) (V (Proc.devRef .tc ReferenceIdeal.main_arg10))
      (V (Proc.devRef .tc ReferenceIdeal.main_arg11)) (V (Proc.devRef .tc ReferenceIdeal.main_arg12))
      (V (Proc.devRef .tc ReferenceIdeal.main_arg13)) (V (Proc.devRef .tc ReferenceIdeal.main_arg14)) := by
  dsimp only [RefLink.arrays, RefLink.Arrays.params, Spec.paramsOf]

/-- The points the reference reads are the ones in its first argument's array. -/
theorem ref_points (V : Valuation ReferenceIdeal.τ ReferenceIdeal.sig (Elt Ideal)) (b : Fin 8) :
    (RefLink.arrays V).points b = Spec.pointsOf (V (Proc.devRef .tc ReferenceIdeal.main_arg0)) b := by
  dsimp only [RefLink.arrays, RefLink.Arrays.points]
  rfl

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- Under the precondition the scales and shifts of the first three stages and the third stage's linear map are real numbers. -/
theorem params_real (h : Pre_KernelIdeal_finite m) : (params m c).Real where
  g1 o := Finite.isReal_of_olt Pre_finite.Facts.bcast_S_S16 (m ((c.tc : Thread KernelIdeal.nD KernelIdeal.τ).loc KernelIdeal.main_arg2)) (h c).2.1 (ix1 o)
  b1 o := Finite.isReal_of_olt Pre_finite.Facts.bcast_S_S16 (m ((c.tc : Thread KernelIdeal.nD KernelIdeal.τ).loc KernelIdeal.main_arg3)) (h c).2.2.1 (ix1 o)
  g2 o := Finite.isReal_of_olt Pre_finite.Facts.bcast_S_S16 (m ((c.tc : Thread KernelIdeal.nD KernelIdeal.τ).loc KernelIdeal.main_arg5)) (h c).2.2.2.1 (ix1 o)
  b2 o := Finite.isReal_of_olt Pre_finite.Facts.bcast_S_S16 (m ((c.tc : Thread KernelIdeal.nD KernelIdeal.τ).loc KernelIdeal.main_arg6)) (h c).2.2.2.2.1 (ix1 o)
  g3 o := Finite.isReal_of_olt Pre_finite.Facts.bcast_S_S32 (m ((c.tc : Thread KernelIdeal.nD KernelIdeal.τ).loc KernelIdeal.main_arg8)) (h c).2.2.2.2.2.1 (ix1 o)
  b3 o := Finite.isReal_of_olt Pre_finite.Facts.bcast_S_S32 (m ((c.tc : Thread KernelIdeal.nD KernelIdeal.τ).loc KernelIdeal.main_arg9)) (h c).2.2.2.2.2.2.1 (ix1 o)
  a1 o k := Finite.isReal_of_olt Pre_finite.Facts.bcast_S_S32x16 (m ((c.tc : Thread KernelIdeal.nD KernelIdeal.τ).loc KernelIdeal.main_arg13)) (h c).2.2.2.2.2.2.2 (ix2 o k)

/-- Under the precondition every coordinate of every point is a real number. -/
theorem points_real (h : Pre_KernelIdeal_finite m) (b : Fin 8) (n : Fin 2048) (k : Fin 3) : Spec.IsReal (points m c b n k) :=
  Finite.isReal_of_olt Pre_finite.Facts.bcast_S_S8x3x2048 (m ((c.tc : Thread KernelIdeal.nD KernelIdeal.τ).loc KernelIdeal.main_arg0)) (h c).1 (ix3 b k n)

/-- From equal arguments that fulfil the precondition, the kernel and the reference both run, with equal results. -/
theorem algebraic : Cert.algebraic_KernelIdeal_ReferenceIdeal_pre_finite := by
  intro m g m' g' hpre hargs
  refine ⟨fun c => KernelIdeal.Run.W9 m g c (Proc.devRef .tc KernelIdeal.main_v0), ?_, ?_⟩
  · refine (θ_run KernelIdeal.defs _ _).mono (fun r h c => ?_) (KernelIdeal.Run.run m g)
    refine ⟨h.1 c _ (KernelIdeal.Run.mem_uc KernelIdeal.main_v0 (by decide)), ?_, ?_, ?_, ?_, ?_, ?_, ?_, ?_, ?_, ?_, ?_, ?_, ?_, ?_, ?_⟩ <;>
      exact KernelIdeal.Run.end_arg m g r.2.mem c (h.1 c) _ (by decide) (by decide)
  · refine (θ_run ReferenceIdeal.defs _ _).mono (fun r h c => ⟨?_, (h c).2⟩) (ReferenceIdeal.Value.run (F := Ideal) m' g')
    obtain ⟨e0, e1, e2, e3, e4, e5, e6, e7, e8, e9, e10, e11, e12, e13, e14⟩ := hargs c
    have ep : (RefLink.arrays (StableHlo.launchContents m' c)).params = params m c := by
      refine (ref_params _).trans ?_
      unfold params
      rw [← e1, ← e2, ← e3, ← e4, ← e5, ← e6, ← e7, ← e8, ← e9, ← e10, ← e11, ← e12, ← e13, ← e14]
    have ex : ∀ b, (RefLink.arrays (StableHlo.launchContents m' c)).points b = points m c b := fun b => by
      refine (ref_points _ b).trans ?_
      unfold points
      rw [← e0]
    refine (h c).1.trans (Eq.trans (b := (RefLink.arrays (StableHlo.launchContents m' c)).result)
      (by dsimp only [RefLink.Arrays.result, RefLink.arrays]) ?_)
    refine funext fun i : Shape.Idx ⟨3, ![8, 128, 2048]⟩ => ?_
    obtain ⟨b, o, n, rfl⟩ := ix3_surj i
    refine (RefLink.Arrays.result_apply (ep ▸ params_real m c hpre) b
      (fun n k => (congrFun (congrFun (ex b) n) k) ▸ points_real m c hpre b n k) n o).trans ?_
    rw [ep, ex]
    exact (value m g c (params_real m c hpre) (points_real m c hpre) b o n).symm

end Cert.Algebraic

end
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Finite.facts,
    Frames.kernel, Frames.kernelIdeal, Frames.kernelIdeal_finite, Frames.referenceIdeal, Frames.referenceIdeal_finite,
    Frames.preserves, Algebraic.algebraic⟩

end Cert.Proof

end
